-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_entries_finite [hPre_entries_finite : Cert.Pre_entries_finite.Facts] (m : (ℓ : Loc Cert.KernelIdeal.nD Cert.KernelIdeal.τ Cert.KernelIdeal.sig) → Buf (Elt Ideal) ℓ) : Prop :=
  ∀ c : Dev Cert.KernelIdeal.nD,
    (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_entries_finite [hPre_entries_finite : Cert.Pre_entries_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_entries_finite [hKernelIdeal : Cert.KernelIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_entries_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_entries_finite [hReferenceIdeal : Cert.ReferenceIdeal.Facts] [hPre_entries_finite : Cert.Pre_entries_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_entries_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_entries_finite [hKernelIdeal : Cert.KernelIdeal.Facts] [hReferenceIdeal : Cert.ReferenceIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_entries_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_entries_finite : Cert.Pre_entries_finite.Facts),
    quiescent_Kernel (hKernel := hKernel)
    ∧ quiescent_KernelIdeal (hKernelIdeal := hKernelIdeal)
    ∧ quiescent_KernelIdeal_pre_entries_finite (hKernelIdeal := hKernelIdeal) (hPre_entries_finite := hPre_entries_finite)
    ∧ quiescent_ReferenceIdeal (hReferenceIdeal := hReferenceIdeal)
    ∧ quiescent_ReferenceIdeal_pre_entries_finite (hReferenceIdeal := hReferenceIdeal) (hPre_entries_finite := hPre_entries_finite)
    ∧ preserves_Kernel_KernelIdeal
    ∧ algebraic_KernelIdeal_ReferenceIdeal_pre_entries_finite (hKernelIdeal := hKernelIdeal) (hReferenceIdeal := hReferenceIdeal) (hPre_entries_finite := hPre_entries_finite)
-- ==== Pre_entries_finite.lean ====
abbrev S128x4096 : Shape := ⟨2, ![128, 4096]⟩
abbrev S4096x4096 : Shape := ⟨2, ![4096, 4096]⟩
abbrev S4224x4096 : Shape := ⟨2, ![4224, 4096]⟩
abbrev S_ : Shape := ⟨0, ![]⟩

class Facts : Prop where
  concatenates_S128x4096_S4096x4096_S4224x4096_d0 : Shape.Concatenates [S128x4096, S4096x4096] S4224x4096 0
  bcast_S_S4224x4096 : S_.BroadcastsInDim S4224x4096 (![] : Fin 0 → Fin S4224x4096.rank)

variable [Facts]

def fn {F : FTy → Type} [FloatOps F] (main_arg0 : FVec F S128x4096 .f32) (main_arg1 : FVec F S4096x4096 .f32) : IVec S4224x4096 1 :=
  let main_v0 : FVec F S4224x4096 .f32 := (fun a b => concatenate S4224x4096 0 [⟨S128x4096, a⟩, ⟨S4096x4096, b⟩] concatenates_S128x4096_S4096x4096_S4224x4096_d0) main_arg0 main_arg1
  let main_v1 : FVec F S4224x4096 .f32 := Host.absf main_v0
  let main_cst : FVec F S_ .f32 := constant S_ .f32 0x7F800000#32
  let main_v2 : FVec F S4224x4096 .f32 := broadcastInDim S4224x4096 ![] bcast_S_S4224x4096 main_cst
  let main_v3 : IVec S4224x4096 1 := cmpf .olt main_v1 main_v2
  main_v3
-- ==== Kernel.lean ====
abbrev S128x4096 : Shape := ⟨2, ![128, 4096]⟩
abbrev S4096x4096 : Shape := ⟨2, ![4096, 4096]⟩
abbrev S1x128 : Shape := ⟨2, ![1, 128]⟩
abbrev S512x4096 : Shape := ⟨2, ![512, 4096]⟩
abbrev S3 : Shape := ⟨1, ![3]⟩
abbrev S1 : Shape := ⟨1, ![1]⟩
abbrev S_ : Shape := ⟨0, ![]⟩
abbrev S128x512 : Shape := ⟨2, ![128, 512]⟩
abbrev S128 : Shape := ⟨1, ![128]⟩

abbrev nBuf : Space → Nat
  | .hbm => 4
  | .vmem => 6
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S1x128, .f32⟩
  | .hbm, ⟨3, _⟩ => ⟨S128, .f32⟩
  | .local _ .vmem, ⟨0, _⟩ => ⟨S128x4096, .f32⟩
  | .local _ .vmem, ⟨1, _⟩ => ⟨S1x128, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c3_i32_1 : BitVec 32 := 3#32
  let c0_i32_2 : BitVec 32 := 0#32
  let v5 : BitVec 1 := Scalar.cmpi .eq c3_i32_1 c0_i32_2
  let c1_i32_3 : BitVec 32 := 1#32
  let v6 : BitVec 32 := Scalar.select v5 c1_i32_3 c3_i32_1
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c0_i32_7 : BitVec 32 := 0#32
  let v15 : BitVec 1 := Scalar.cmpi .eq v14 c0_i32_7
  let c8_i32 : BitVec 32 := 8#32
  let v16 : BitVec 1 := Scalar.cmpi .slt v4 c8_i32
  let v17 : BitVec 1 := Scalar.andi v15 v16
  let v18 : BitVec 32 := Scalar.extui v17
  let c0_i32_8 : BitVec 32 := 0#32
  let v19 : BitVec 1 := Scalar.cmpi .ne v18 c0_i32_8
  v19

def k0_off1 (i : grid0.Coords) : Fin 2 → Nat :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c512_i32 : BitVec 32 := 512#32
  let v96 : BitVec 32 := Scalar.muli v4 c512_i32
  let c0_i32_56 : BitVec 32 := 0#32
  ![v96.toNat, 0]
def k0_cond3 (i : grid0.Coords) : BitVec 1 :=
  let arg0 : BitVec 32 := BitVec.ofNat 32 (i 0).val
  let c3_i32_9 : BitVec 32 := 3#32
  let v20 : BitVec 32 := Scalar.addi arg0 c3_i32_9
  let c1_i32_10 : BitVec 32 := 1#32
  let v21 : BitVec 32 := Scalar.subi v20 c1_i32_10
  let c3_i32_11 : BitVec 32 := 3#32
  let c0_i32_12 : BitVec 32 := 0#32
  let v22 : BitVec 1 := Scalar.cmpi .eq c3_i32_11 c0_i32_12
  let c1_i32_13 : BitVec 32 := 1#32
  let v23 : BitVec 32 := Scalar.select v22 c1_i32_13 c3_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c1_i32_17 : BitVec 32 := 1#32
  let v32 : BitVec 1 := Scalar.cmpi .eq v31 c1_i32_17
  let c8_i32_18 : BitVec 32 := 8#32
  let v33 : BitVec 1 := Scalar.cmpi .slt v21 c8_i32_18
  let v34 : BitVec 1 := Scalar.andi v32 v33
  let v35 : BitVec 32 := Scalar.extui v34
  let c0_i32_19 : BitVec 32 := 0#32
  let v36 : BitVec 1 := Scalar.cmpi .ne v35 c0_i32_19
  v36

def k0_off2 (i : grid0.Coords) : Fin 2 → Nat :=
  let arg0 : BitVec 32 := BitVec.ofNat 32 (i 0).val
  let c3_i32_9 : BitVec 32 := 3#32
  let v20 : BitVec 32 := Scalar.addi arg0 c3_i32_9
  let c1_i32_10 : BitVec 32 := 1#32
  let v21 : BitVec 32 := Scalar.subi v20 c1_i32_10
  let c512_i32 : BitVec 32 := 512#32
  let v96 : BitVec 32 := Scalar.muli v21 c512_i32
  let c0_i32_56 : BitVec 32 := 0#32
  ![v96.toNat, 0]
def k0_cond4 (i : grid0.Coords) : BitVec 1 :=
  let arg0 : BitVec 32 := BitVec.ofNat 32 (i 0).val
  let c3_i32_20 : BitVec 32 := 3#32
  let v37 : BitVec 32 := Scalar.addi arg0 c3_i32_20
  let c1_i32_21 : BitVec 32 := 1#32
  let v38 : BitVec 32 := Scalar.subi v37 c1_i32_21
  let c3_i32_22 : BitVec 32 := 3#32
  let c0_i32_23 : BitVec 32 := 0#32
  let v39 : BitVec 1 := Scalar.cmpi .eq c3_i32_22 c0_i32_23
  let c1_i32_24 : BitVec 32 := 1#32
  let v40 : BitVec 32 := Scalar.select v39 c1_i32_24 c3_i32_22
  let v41 : BitVec 32 := Scalar.remsi v38 v40
  let c0_i32_26 : BitVec 32 := 0#32
  let v43 : BitVec 1 := Scalar.cmpi .slt v41 c0_i32_26
  let c0_i32_27 : BitVec 32 := 0#32
  let v44 : BitVec 1 := Scalar.cmpi .slt v40 c0_i32_27
  let v45 : BitVec 1 := Scalar.xori v43 v44
  let c0_i32_25 : BitVec 32 := 0#32
  let v42 : BitVec 1 := Scalar.cmpi .ne v41 c0_i32_25
  let v46 : BitVec 1 := Scalar.andi v45 v42
  let v47 : BitVec 32 := Scalar.addi v41 v40
  let v48 : BitVec 32 := Scalar.select v46 v47 v41
  let c2_i32 : BitVec 32 := 2#32
  let v49 : BitVec 1 := Scalar.cmpi .eq v48 c2_i32
  let c8_i32_28 : BitVec 32 := 8#32
  let v50 : BitVec 1 := Scalar.cmpi .slt v38 c8_i32_28
  let v51 : BitVec 1 := Scalar.andi v49 v50
  let v52 : BitVec 32 := Scalar.extui v51
  let c0_i32_29 : BitVec 32 := 0#32
  let v53 : BitVec 1 := Scalar.cmpi .ne v52 c0_i32_29
  v53

def k0_off3 (i : grid0.Coords) : Fin 2 → Nat :=
  let arg0 : BitVec 32 := BitVec.ofNat 32 (i 0).val
  let c3_i32_20 : BitVec 32 := 3#32
  let v37 : BitVec 32 := Scalar.addi arg0 c3_i32_20
  let c1_i32_21 : BitVec 32 := 1#32
  let v38 : BitVec 32 := Scalar.subi v37 c1_i32_21
  let c512_i32 : BitVec 32 := 512#32
  let v96 : BitVec 32 := Scalar.muli v38 c512_i32
  let c0_i32_56 : BitVec 32 := 0#32
  ![v96.toNat, 0]
def k0_cond5 (i : grid0.Coords) : BitVec 1 :=
  let arg0 : BitVec 32 := BitVec.ofNat 32 (i 0).val
  let c3_i32_30 : BitVec 32 := 3#32
  let c0_i32_31 : BitVec 32 := 0#32
  let v54 : BitVec 1 := Scalar.cmpi .eq c3_i32_30 c0_i32_31
  let c1_i32_32 : BitVec 32 := 1#32
  let v55 : BitVec 32 := Scalar.select v54 c1_i32_32 c3_i32_30
  let v56 : BitVec 32 := Scalar.remsi arg0 v55
  let c0_i32_34 : BitVec 32 := 0#32
  let v58 : BitVec 1 := Scalar.cmpi .slt v56 c0_i32_34
  let c0_i32_35 : BitVec 32 := 0#32
  let v59 : BitVec 1 := Scalar.cmpi .slt v55 c0_i32_35
  let v60 : BitVec 1 := Scalar.xori v58 v59
  let c0_i32_33 : BitVec 32 := 0#32
  let v57 : BitVec 1 := Scalar.cmpi .ne v56 c0_i32_33
  let v61 : BitVec 1 := Scalar.andi v60 v57
  let v62 : BitVec 32 := Scalar.addi v56 v55
  let v63 : BitVec 32 := Scalar.select v61 v62 v56
  let c0_i32_36 : BitVec 32 := 0#32
  let v64 : BitVec 1 := Scalar.cmpi .eq v63 c0_i32_36
  let v65 : BitVec 32 := Scalar.extui v64
  let c0_i32_37 : BitVec 32 := 0#32
  let v66 : BitVec 1 := Scalar.cmpi .ne v65 c0_i32_37
  v66

def k0_off4 (i : grid0.Coords) : Fin 2 → Nat :=
  let arg0 : BitVec 32 := BitVec.ofNat 32 (i 0).val
  let c512_i32 : BitVec 32 := 512#32
  let v96 : BitVec 32 := Scalar.muli arg0 c512_i32
  let c0_i32_56 : BitVec 32 := 0#32
  ![v96.toNat, 0]
def k0_off5 (i : grid0.Coords) : Fin 2 → Nat :=
  let c0 : Index := 0#32
  let arg0 : BitVec 32 := BitVec.ofNat 32 (i 0).val
  let c512_i32_57 : BitVec 32 := 512#32
  let v100 : BitVec 32 := Scalar.muli arg0 c512_i32_57
  let v101 : Index := Scalar.indexCast v100
  ![0, v101.toNat]
def k0_cond6 (i : grid0.Coords) : BitVec 1 :=
  let arg0 : BitVec 32 := BitVec.ofNat 32 (i 0).val
  let c3_i32_38 : BitVec 32 := 3#32
  let c0_i32_39 : BitVec 32 := 0#32
  let v67 : BitVec 1 := Scalar.cmpi .eq c3_i32_38 c0_i32_39
  let c1_i32_40 : BitVec 32 := 1#32
  let v68 : BitVec 32 := Scalar.select v67 c1_i32_40 c3_i32_38
  let v69 : BitVec 32 := Scalar.remsi arg0 v68
  let c0_i32_42 : BitVec 32 := 0#32
  let v71 : BitVec 1 := Scalar.cmpi .slt v69 c0_i32_42
  let c0_i32_43 : BitVec 32 := 0#32
  let v72 : BitVec 1 := Scalar.cmpi .slt v68 c0_i32_43
  let v73 : BitVec 1 := Scalar.xori v71 v72
  let c0_i32_41 : BitVec 32 := 0#32
  let v70 : BitVec 1 := Scalar.cmpi .ne v69 c0_i32_41
  let v74 : BitVec 1 := Scalar.andi v73 v70
  let v75 : BitVec 32 := Scalar.addi v69 v68
  let v76 : BitVec 32 := Scalar.select v74 v75 v69
  let c1_i32_44 : BitVec 32 := 1#32
  let v77 : BitVec 1 := Scalar.cmpi .eq v76 c1_i32_44
  let v78 : BitVec 32 := Scalar.extui v77
  let c0_i32_45 : BitVec 32 := 0#32
  let v79 : BitVec 1 := Scalar.cmpi .ne v78 c0_i32_45
  v79

def k0_off6 (i : grid0.Coords) : Fin 2 → Nat :=
  let arg0 : BitVec 32 := BitVec.ofNat 32 (i 0).val
  let c512_i32 : BitVec 32 := 512#32
  let v96 : BitVec 32 := Scalar.muli arg0 c512_i32
  let c0_i32_56 : BitVec 32 := 0#32
  ![v96.toNat, 0]
def k0_off7 (i : grid0.Coords) : Fin 2 → Nat :=
  let c0 : Index := 0#32
  let arg0 : BitVec 32 := BitVec.ofNat 32 (i 0).val
  let c512_i32_57 : BitVec 32 := 512#32
  let v100 : BitVec 32 := Scalar.muli arg0 c512_i32_57
  let v101 : Index := Scalar.indexCast v100
  ![0, v101.toNat]
def k0_cond7 (i : grid0.Coords) : BitVec 1 :=
  let arg0 : BitVec 32 := BitVec.ofNat 32 (i 0).val
  let c3_i32_46 : BitVec 32 := 3#32
  let c0_i32_47 : BitVec 32 := 0#32
  let v80 : BitVec 1 := Scalar.cmpi .eq c3_i32_46 c0_i32_47
  let c1_i32_48 : BitVec 32 := 1#32
  let v81 : BitVec 32 := Scalar.select v80 c1_i32_48 c3_i32_46
  let v82 : BitVec 32 := Scalar.remsi arg0 v81
  let c0_i32_50 : BitVec 32 := 0#32
  let v84 : BitVec 1 := Scalar.cmpi .slt v82 c0_i32_50
  let c0_i32_51 : BitVec 32 := 0#32
  let v85 : BitVec 1 := Scalar.cmpi .slt v81 c0_i32_51
  let v86 : BitVec 1 := Scalar.xori v84 v85
  let c0_i32_49 : BitVec 32 := 0#32
  let v83 : BitVec 1 := Scalar.cmpi .ne v82 c0_i32_49
  let v87 : BitVec 1 := Scalar.andi v86 v83
  let v88 : BitVec 32 := Scalar.addi v82 v81
  let v89 : BitVec 32 := Scalar.select v87 v88 v82
  let c2_i32_52 : BitVec 32 := 2#32
  let v90 : BitVec 1 := Scalar.cmpi .eq v89 c2_i32_52
  let v91 : BitVec 32 := Scalar.extui v90
  let c0_i32_53 : BitVec 32 := 0#32
  let v92 : BitVec 1 := Scalar.cmpi .ne v91 c0_i32_53
  v92

def k0_off8 (i : grid0.Coords) : Fin 2 → Nat :=
  let arg0 : BitVec 32 := BitVec.ofNat 32 (i 0).val
  let c512_i32 : BitVec 32 := 512#32
  let v96 : BitVec 32 := Scalar.muli arg0 c512_i32
  let c0_i32_56 : BitVec 32 := 0#32
  ![v96.toNat, 0]
def k0_off9 (i : grid0.Coords) : Fin 2 → Nat :=
  let c0 : Index := 0#32
  let arg0 : BitVec 32 := BitVec.ofNat 32 (i 0).val
  let c512_i32_57 : BitVec 32 := 512#32
  let v100 : BitVec 32 := Scalar.muli arg0 c512_i32_57
  let v101 : Index := Scalar.indexCast v100
  ![0, v101.toNat]
def k0_cond8 (i : grid0.Coords) : BitVec 1 :=
  let arg0 : BitVec 32 := BitVec.ofNat 32 (i 0).val
  let c7_i32 : BitVec 32 := 7#32
  let v93 : BitVec 1 := Scalar.cmpi .eq arg0 c7_i32
  let v94 : BitVec 32 := Scalar.extui v93
  let c0_i32_54 : BitVec 32 := 0#32
  let v95 : BitVec 1 := Scalar.cmpi .ne v94 c0_i32_54
  v95

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S128x4096 : Shape := ⟨2, ![128, 4096]⟩
abbrev S4096x4096 : Shape := ⟨2, ![4096, 4096]⟩
abbrev S4096x128 : Shape := ⟨2, ![4096, 128]⟩
abbrev S128 : Shape := ⟨1, ![128]⟩

abbrev nBuf : Space → Nat
  | .hbm => 4
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S4096x128, .f32⟩
  | .hbm, ⟨3, _⟩ => ⟨S128, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Ring.lean ====
/- What the run of the kernel is stated over: the branch conditions at each grid point, the three slots the
   weight rows are streamed through, and what the launch hands the first point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Flow

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The branches taken at each point -/

/-- The first branch: clear the accumulator and start the first two copies. -/
abbrev atStart (i : grid0.Coords) : Prop :=
  (Scalar.cmpi .ne (Scalar.extui (Scalar.cmpi .eq (BitVec.ofNat 32 (i 0).val) 0#32)) 0#32) = 1#1
/-- Start a copy into slot 0, 1, 2. -/
abbrev start0 (i : grid0.Coords) : Prop := k0_cond2 i = 1#1
abbrev start1 (i : grid0.Coords) : Prop := k0_cond3 i = 1#1
abbrev start2 (i : grid0.Coords) : Prop := k0_cond4 i = 1#1
/-- Wait for slot 0, 1, 2 and multiply. -/
abbrev use0 (i : grid0.Coords) : Prop := k0_cond5 i = 1#1
abbrev use1 (i : grid0.Coords) : Prop := k0_cond6 i = 1#1
abbrev use2 (i : grid0.Coords) : Prop := k0_cond7 i = 1#1
/-- The last branch: contract with the input and write the result. -/
abbrev atEnd (i : grid0.Coords) : Prop := k0_cond8 i = 1#1

theorem branches : ∀ t : Fin grid0.N,
    (atStart (grid0.coords t) ↔ t.val = 0)
    ∧ (start0 (grid0.coords t) ↔ (t.val = 1 ∨ t.val = 4))
    ∧ (start1 (grid0.coords t) ↔ (t.val = 2 ∨ t.val = 5))
    ∧ (start2 (grid0.coords t) ↔ (t.val = 0 ∨ t.val = 3))
    ∧ (use0 (grid0.coords t) ↔ t.val % 3 = 0)
    ∧ (use1 (grid0.coords t) ↔ t.val % 3 = 1)
    ∧ (use2 (grid0.coords t) ↔ t.val % 3 = 2)
    ∧ (atEnd (grid0.coords t) ↔ t.val = 7) := by decide +kernel

/-- The grid has one axis, and the point's coordinate on it is its number. -/
theorem coord_eq : ∀ t : Fin grid0.N, (grid0.coords t 0).val = t.val := by decide +kernel

/-! ## The staging buffers, the scratch buffers and the weights -/

abbrev xM (t : Fin cfg0.N) : Memref sig .tc .vmem S128x4096 .f32 := win0_0.stage (cfg0.slots t 0)
abbrev xMwhole (t : Fin cfg0.N) : (xM t).IsWhole := hstage0_0 ((cfg0.slots t 0).cast nbuf0_0)
abbrev oM (t : Fin cfg0.N) : Memref sig .tc .vmem S1x128 .f32 := win0_1.stage (cfg0.slots t 1)
abbrev oMwhole (t : Fin cfg0.N) : (oM t).IsWhole := hstage0_1 ((cfg0.slots t 1).cast nbuf0_1)
/-- The three slots. -/
abbrev slotA : Memref sig .tc .vmem S512x4096 .f32 := Memref.whole cc0_scratch0
abbrev slotB : Memref sig .tc .vmem S512x4096 .f32 := Memref.whole cc0_scratch1
abbrev slotC : Memref sig .tc .vmem S512x4096 .f32 := Memref.whole cc0_scratch2
/-- The accumulator. -/
abbrev accM : Memref sig .tc .vmem S128x4096 .f32 := Memref.whole cc0_scratch3
/-- The weights, left in HBM. -/
abbrev qM : Memref sig .tc .hbm S4096x4096 .f32 := Memref.whole main_arg1

/-- The contents of a memref's buffer, and the memref's elements held at some contents. -/
abbrev Cont (c : Dev nD) {sp : Space} {S : Shape} {e : EltTy} (M : Memref sig .tc sp S e) : Type :=
  Buf (Elt F) (M.view.loc (c : Thread nD τ))
abbrev held (c : Dev nD) {sp : Space} {S : Shape} {e : EltTy} (M : Memref sig .tc sp S e) (f : Cont (F := F) c M) : sProp 𝕄 :=
  M.view.loc (c : Thread nD τ) ↦[M.view.set]{fullShare} f

/-! ## The copies -/

theorem rows_inb (b : Fin 8) : ∀ a, (![512 * b.val, 0] : Fin 2 → Nat) a + S512x4096.size a ≤ S4096x4096.size a := by
  have := b.isLt; intro a; fin_cases a <;> simp <;> omega
/-- Rows `512 b` to `512 b + 511` of the weights. -/
def rowsM (b : Fin 8) : Memref sig .tc .hbm S512x4096 .f32 :=
  qM.slice (Rect.unit (s := S4096x4096) ![512 * b.val, 0] S512x4096.size (rows_inb b)) (fun _ => rfl)

/-- The weights are read by up to three copies at a time: each slot has a share of them of its own. -/
abbrev shA : PosShare TreeShare := fullShare.left
abbrev shB : PosShare TreeShare := fullShare.right.left
abbrev shC : PosShare TreeShare := fullShare.right.right

section Copies
variable (c : Dev nD) (W : Cont (F := F) c qM)

/-- One slot's share of the weights: all of them, block `b`'s rows, and the other rows. -/
abbrev qAll (q : PosShare TreeShare) : sProp 𝕄 := ((c : Thread nD τ).loc main_arg1) ↦[Finset.univ]{q} W
abbrev qRows (q : PosShare TreeShare) (b : Fin 8) : sProp 𝕄 :=
  (rowsM b).view.loc (c : Thread nD τ) ↦[(rowsM b).view.set]{q} W
def qRest (q : PosShare TreeShare) (b : Fin 8) : sProp 𝕄 :=
  ((c : Thread nD τ).loc main_arg1) ↦[Finset.univ \ (rowsM b).view.set]{q} W

/-- A slot after block `b` has landed in it. -/
abbrev landed (M : Memref sig .tc .vmem S512x4096 .f32) (b : Fin 8) (f : Cont (F := F) c M) : Cont (F := F) c M :=
  M.view.writes (Elt F) f [⟨Rect.whole S512x4096, ReadAs.same.apply ((rowsM b).view.read (Elt F) W)⟩]

/-- The copy of block `b` into slot `M`, under way on cell `s`. -/
abbrev copying (M : Memref sig .tc .vmem S512x4096 .f32) (s : SemLoc sig) (q : PosShare TreeShare) (b : Fin 8)
    (f : Cont (F := F) c M) : sProp 𝕄 :=
  Transfers.Flight countersEmb (c : Thread nD τ) s default (M.view.amount s)
    iprop(held c M (landed c W M b f) ∗ qRows c W q b)

/-- A slot is idle — its cell zero, it holds something, its share of the weights is whole — or block `b` is on its way. -/
def idle (M : Memref sig .tc .vmem S512x4096 .f32) (s : SemLoc sig) (q : PosShare TreeShare) : sProp 𝕄 :=
  iprop(semVal ((c : Thread nD τ), s) 0 ∗ (∃ f, held (F := F) c M f) ∗ qAll c W q)
def busy (M : Memref sig .tc .vmem S512x4096 .f32) (s : SemLoc sig) (q : PosShare TreeShare) (b : Fin 8) : sProp 𝕄 :=
  iprop((∃ f, copying c W M s q b f) ∗ qRest c W q b)
/-- Either, by whether a block is named. -/
def slotAt (M : Memref sig .tc .vmem S512x4096 .f32) (s : SemLoc sig) (q : PosShare TreeShare) : Option (Fin 8) → sProp 𝕄
  | none => idle c W M s q
  | some b => busy c W M s q b

theorem split_rows (q : PosShare TreeShare) (b : Fin 8) : qAll (F := F) c W q ⊣⊢ iprop(qRows c W q b ∗ qRest c W q b) := by
  unfold qRest; exact pointsTo_split_subset (Finset.subset_univ _)

theorem split_shares : (((c : Thread nD τ).loc main_arg1) ↦{fullShare} W : sProp 𝕄) ⊣⊢ iprop(qAll c W shA ∗ qAll c W shB ∗ qAll c W shC) := by
  refine ⟨?_, ?_⟩
  · iintro H
    ihave H' := (pointsTo_share (PosShare.mem_left_op_right fullShare)).1 $$ H
    icases H' with ⟨HA, HBC⟩
    ihave H'' := (pointsTo_share (PosShare.mem_left_op_right fullShare.right)).1 $$ HBC
    icases H'' with ⟨HB, HC⟩
    isplitl [HA]; · iexact HA
    isplitl [HB]; · iexact HB
    iexact HC
  · iintro ⟨HA, HB, HC⟩
    iapply (pointsTo_share (PosShare.mem_left_op_right fullShare)).2
    isplitl [HA]; · iexact HA
    iapply (pointsTo_share (PosShare.mem_left_op_right fullShare.right)).2
    isplitl [HB]; · iexact HB
    iexact HC
end Copies

/-! ## What one block computes -/

theorem cols_inb (b : Fin 8) : ∀ a, (![0, 512 * b.val] : Fin 2 → Nat) a + S128x512.size a ≤ S128x4096.size a := by
  have := b.isLt; intro a; fin_cases a <;> simp <;> omega
/-- Columns `512 b` to `512 b + 511` of the input. -/
def xCols (x : Vec F S128x4096 .f32) (b : Fin 8) : Vec F S128x512 .f32 :=
  VecWindow.window x ![0, 512 * b.val] S128x512.size (cols_inb b)
/-- Block `b` of the weights, as read. -/
def qBlock {c : Dev nD} (W : Cont (F := F) c qM) (b : Fin 8) : Vec F S512x4096 .f32 :=
  (rowsM b).view.read (Elt F) W
/-- The accumulator after block `b` is multiplied in. -/
def accStep {c : Dev nD} (x : Vec F S128x4096 .f32) (W : Cont (F := F) c qM) (b : Fin 8) (acc : Vec F S128x4096 .f32) :
    Vec F S128x4096 .f32 :=
  k0_pay5 (xCols x b) (qBlock W b) acc

theorem load_cols {arg : Memref sig .tc .vmem S128x4096 .f32} (h : arg.IsWhole) (x : Vec F S128x4096 .f32) (b : Fin 8)
    {off : Fin 2 → ℕ} (inb : ∀ a, off a + S128x512.size a ≤ S128x4096.size a) (e : off = ![0, 512 * b.val]) :
    arg.view.readAt (Elt F) (Rect.unit (s := S128x4096) off S128x512.size inb).toLoadRect (h.unread x) = xCols x b := by
  rw [View.readAt_unit arg.view _ inb e (cols_inb b), h.read_unread]; rfl

theorem load_slot (v : View sig .tc .vmem S512x4096 .f32) (w : Vec F S512x4096 .f32) (inb : ∀ a, (![0, 0] : Fin 2 → ℕ) a + S512x4096.size a ≤ S512x4096.size a) :
    v.readCov [(⟨Rect.whole S512x4096, w⟩ : View.Piece (Elt F) S512x4096 .f32)] (Rect.unit (s := S512x4096) ![0, 0] S512x4096.size inb).toLoadRect = w :=
  View.readCov_full v (off' := fun _ => 0) inb (fun a => by simp) w []

theorem load_acc (h : accM.IsWhole) (x : Vec F S128x4096 .f32) (inb : ∀ a, (![0, 0] : Fin 2 → ℕ) a + S128x4096.size a ≤ S128x4096.size a) :
    accM.view.readAt (Elt F) (Rect.unit (s := S128x4096) ![0, 0] S128x4096.size inb).toLoadRect (h.unread x) = x := by
  rw [View.readAt_full, h.read_unread]

theorem load_stored (w : Vec F S128x4096 .f32) (inb : ∀ a, (![0, 0] : Fin 2 → ℕ) a + S128x4096.size a ≤ S128x4096.size a) :
    accM.view.readCov [(⟨Rect.unit (s := S128x4096) ![0, 0] S128x4096.size inb, w⟩ : View.Piece (Elt F) S128x4096 .f32)]
      (Rect.unit (s := S128x4096) ![0, 0] S128x4096.size inb).toLoadRect = w :=
  View.readCov_full accM.view inb inb w []

theorem load_x {arg : Memref sig .tc .vmem S128x4096 .f32} (h : arg.IsWhole) (x : Vec F S128x4096 .f32)
    (inb : ∀ a, (![0, 0] : Fin 2 → ℕ) a + S128x4096.size a ≤ S128x4096.size a) :
    arg.view.readAt (Elt F) (Rect.unit (s := S128x4096) ![0, 0] S128x4096.size inb).toLoadRect (h.unread x) = x := by
  rw [View.readAt_full, h.read_unread]

/-! ## What the launch hands over -/

/-- The kernel's own cells. -/
abbrev cells : Fin 3 → SemLoc sig := fun j => (![SemLoc.dma 2, SemLoc.dma 3, SemLoc.dma 4] : Fin 3 → SemLoc sig) j
theorem cells_own : Pipeline.OwnSemFacts spec0 cells := by decide
theorem cells_zero (c : Dev nD) :
    (Pipeline.ownSems0 (Ix := Unit) (Name := ℕ) (U := Pipeline.UD sig nD τ) (Lvl := ℕ) (Val := Elt F) (τ := τ) cells c : sProp 𝕄)
      = iprop(semVal ((c : Thread nD τ), SemLoc.dma 2) 0 ∗ semVal ((c : Thread nD τ), SemLoc.dma 3) 0 ∗ semVal ((c : Thread nD τ), SemLoc.dma 4) 0) := by
  rw [Pipeline.ownSems0_eq_of_list c cells [0, 1, 2] (by decide) (by decide)]; rfl

/-- The buffers the kernel's copies read. -/
def moved : Finset (Ref sig .tc) := {main_arg1}
theorem moved_rest : moved ⊆ Pipeline.restRefs sig spec0 := by decide
theorem moved_pts (c : Dev nD) :
    (bigSep moved (fun b => ((c : Thread nD τ).loc b) ↦{fullShare} V m c b) : sProp 𝕄)
      = (((c : Thread nD τ).loc main_arg1) ↦{fullShare} V m c main_arg1) := by
  rw [BI.bigSep_eq_bigSepL_of_eq [main_arg1] (by decide) (by decide)]; rfl

theorem tail_sub : ∀ ops ∈ ([hostOps1] : List (List (HloOp τ sig (Elt F)))), ∀ op ∈ ops,
    op.bufs ⊆ Pipeline.tailRefsBut sig Pipeline.Prefetch.none spec0 moved := by
  intro ops hops op hop
  simp only [List.mem_cons, List.mem_nil_iff, or_false] at hops
  rcases hops with rfl
  refine Pipeline.sub_tailRefsBut Pipeline.Prefetch.none spec0 moved op ((List.forall_iff_forall_mem.mp hostOps1_sub) op hop) (fun j => j.elim0) ?_
  simp only [hostOps1, List.mem_cons, List.mem_nil_iff, or_false] at hop
  rcases hop with rfl
  intro b hb; simp only [moved, Finset.mem_singleton] at hb
  rcases hb with rfl
  simp only [StableHlo.reshape_bufs, Finset.mem_insert, Finset.mem_singleton, not_or]
  and_intros <;> exact StableHlo.devRef_ne_of_ne (by decide)

/-- The launch's resources, one by one. -/
theorem launch_eq (c : Dev nD) :
    (Pipeline.ΦD cells spec0 moved (V m) c : sProp 𝕄)
      = iprop(iprop((∃ d, held (F := F) c slotA d) ∗ (∃ d, held (F := F) c slotB d) ∗ (∃ d, held (F := F) c slotC d) ∗ (∃ d, owns (c : Thread nD τ) accM fullShare d))
          ∗ (∃ r, prngReg c r)
          ∗ iprop(semVal ((c : Thread nD τ), SemLoc.dma 2) 0 ∗ semVal ((c : Thread nD τ), SemLoc.dma 3) 0 ∗ semVal ((c : Thread nD τ), SemLoc.dma 4) 0)
          ∗ (((c : Thread nD τ).loc main_arg1) ↦{fullShare} V m c main_arg1)) := by
  rw [Pipeline.ΦD_eq, scopedRest0_eq, cells_zero, moved_pts]
  simp only [held, accM, owns_whole, slotA, slotB, slotC, Memref.view_whole, View.set_whole]
  try rfl

end Cert.KernelIdeal.Flow

end
-- ==== Proof.Ideal.Steps.lean ====
/- The kernel's body at one grid point, case by case. -/
module

public import proofs.«01_k».proof.Proof.Ideal.Ring

@[expose] public section

set_option maxRecDepth 16384

noncomputable section

namespace Cert.KernelIdeal.Flow

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in
/-- Blocks 1 and 4: the next copy goes to the first slot, the second slot is multiplied in. -/
theorem run_B (c : Dev nD) (t : Fin cfg0.N) (b b1 b2 : Fin 8)
    (arg1 : Memref sig .tc .vmem S128x4096 .f32) (harg1 : arg1.IsWhole) (arg3 : Memref sig .tc .vmem S1x128 .f32) (harg3 : arg3.IsWhole)
    (h0 : ¬atStart (grid0.coords t)) (h2 : start0 (grid0.coords t)) (h3 : ¬start1 (grid0.coords t)) (h4 : ¬start2 (grid0.coords t)) (h5 : ¬use0 (grid0.coords t)) (h6 : use1 (grid0.coords t)) (h7 : ¬use2 (grid0.coords t)) (h8 : ¬atEnd (grid0.coords t))
    (hb : b.val = t.val) (hb2 : b2.val = t.val + 2)
    (x0 : Vec F S128x4096 .f32) (W : Cont (F := F) c qM) (acc : Vec F S128x4096 .f32) :
      ∀ (Ws : Waits sig Unit) (K : PUnit → sProp 𝕄),
        iprop(owns (c : Thread nD τ) arg1 fullShare x0 ∗ owns (c : Thread nD τ) accM fullShare acc
            ∗ busy c W slotB (SemLoc.dma 3) shB b ∗ busy c W slotC (SemLoc.dma 4) shC b1 ∗ idle c W slotA (SemLoc.dma 2) shA
            ∗ owes (c : Thread nD τ) 0 Ws
            ∗ (iprop(owns (c : Thread nD τ) arg1 fullShare x0 ∗ owns (c : Thread nD τ) accM fullShare (accStep x0 W b acc)
              ∗ busy c W slotC (SemLoc.dma 4) shC b1 ∗ busy c W slotA (SemLoc.dma 2) shA b2 ∗ idle c W slotB (SemLoc.dma 3) shB
              ∗ (∃ W', owes (c : Thread nD τ) 0 W')) -∗ K ⟨⟩))
          ⊢ wp frame (wpE (defs₀ (F := F)) Variants.none c none) Set.univ
            (cc0__quadform_kernel (grid0.coords t) arg1 harg1 (Memref.whole main_arg1) (Memref.isWhole_whole _) arg3 harg3
              (Memref.whole cc0_scratch0) (Memref.isWhole_whole _) (Memref.whole cc0_scratch1) (Memref.isWhole_whole _)
              (Memref.whole cc0_scratch2) (Memref.isWhole_whole _) (Memref.whole cc0_scratch3) (Memref.isWhole_whole _) cc0_scratch4) K := by
  intro Ws K
  simp only [cc0__quadform_kernel_eq_skeleton]; unfold cc0__quadform_kernel_skel
  simp only [k0_part1_eq_skeleton, k0_part2_eq_skeleton]
  have hcanon0 : qM.slice (Rect.unit (s := S4096x4096) (k0_off1 (grid0.coords t)) S512x4096.size (k0_off1_inb (grid0.coords t) h2)) (fun _ => rfl) = rowsM b2 :=
    Memref.slice_unit_congr _ (by rw [k0_off1_eq, coord_eq, hb2]; simp [Nat.mul_add]) _ _ (fun _ => rfl) (fun _ => rfl)
  unfold busy idle owns
  iintro ⟨⟨%f0, %hf0, H0⟩, ⟨%facc, %hfacc, HS⟩, ⟨⟨%fB, HfB⟩, HrB⟩, ⟨HfC, HrC⟩, ⟨HcA, ⟨%fA, HsA⟩, HwA⟩, HW, Hk⟩
  ihave HspA := (split_rows c W shA b2).1 $$ HwA
  icases HspA with ⟨HhA, HrA⟩
  obtain rfl := harg1.eq_unread hf0
  obtain rfl := (Memref.isWhole_whole cc0_scratch3).eq_unread hfacc
  sl_exec (disch := first | sl_exact h0 | sl_exact h2 | sl_exact h3 | sl_exact h4 | sl_exact h5 | sl_exact h6 | sl_exact h7 | sl_exact h8)
  sl_step
  iapply Hk
  isplitl [H0]
  · iexists _; isplitr; · ipureintro; exact harg1.read_unread _
    iexact H0
  isplitl [HS]
  · iexists _; isplitr; swap; · iexact HS
    ipureintro
    rw [View.read_writes_full]
    unfold run_B.sl.v102 run_B.sl.v103
    have e1 := load_cols harg1 x0 b (k0_off7_inb (grid0.coords t) h6) (by rw [k0_off7_eq, coord_eq, hb])
    have e2 := load_slot slotB.view (qBlock W b) inb_S512x4096_S512x4096_0_0
    have e3 := load_acc (Memref.isWhole_whole cc0_scratch3) acc inb_S128x4096_S128x4096_0_0
    exact (congrFun (congrArg₂ k0_pay1 e1 e2) _).trans (congrArg (k0_pay1 _ _) e3)
  isplitl [HfC HrC]
  · isplitl [HfC]; · iexact HfC
    iexact HrC
  isplitl [HcA HrA]
  · isplitl [HcA]
    · iexists _; iexact HcA
    iexact HrA
  isplitl [HfB HfB_dst HfB_src HrB]
  · isplitl [HfB]; · iexact HfB
    isplitl [HfB_dst]
    · iexists _; iexact HfB_dst
    iapply (split_rows c W shB b).2; isplitl [HfB_src]; · iexact HfB_src
    iexact HrB
  iexists _; iexact HW

set_option maxHeartbeats 1000000 in
/-- Blocks 2 and 5: the next copy goes to the second slot, the third slot is multiplied in. -/
theorem run_C (c : Dev nD) (t : Fin cfg0.N) (b b1 b2 : Fin 8)
    (arg1 : Memref sig .tc .vmem S128x4096 .f32) (harg1 : arg1.IsWhole) (arg3 : Memref sig .tc .vmem S1x128 .f32) (harg3 : arg3.IsWhole)
    (h0 : ¬atStart (grid0.coords t)) (h2 : ¬start0 (grid0.coords t)) (h3 : start1 (grid0.coords t)) (h4 : ¬start2 (grid0.coords t)) (h5 : ¬use0 (grid0.coords t)) (h6 : ¬use1 (grid0.coords t)) (h7 : use2 (grid0.coords t)) (h8 : ¬atEnd (grid0.coords t))
    (hb : b.val = t.val) (hb2 : b2.val = t.val + 2)
    (x0 : Vec F S128x4096 .f32) (W : Cont (F := F) c qM) (acc : Vec F S128x4096 .f32) :
      ∀ (Ws : Waits sig Unit) (K : PUnit → sProp 𝕄),
        iprop(owns (c : Thread nD τ) arg1 fullShare x0 ∗ owns (c : Thread nD τ) accM fullShare acc
            ∗ busy c W slotC (SemLoc.dma 4) shC b ∗ busy c W slotA (SemLoc.dma 2) shA b1 ∗ idle c W slotB (SemLoc.dma 3) shB
            ∗ owes (c : Thread nD τ) 0 Ws
            ∗ (iprop(owns (c : Thread nD τ) arg1 fullShare x0 ∗ owns (c : Thread nD τ) accM fullShare (accStep x0 W b acc)
              ∗ busy c W slotA (SemLoc.dma 2) shA b1 ∗ busy c W slotB (SemLoc.dma 3) shB b2 ∗ idle c W slotC (SemLoc.dma 4) shC
              ∗ (∃ W', owes (c : Thread nD τ) 0 W')) -∗ K ⟨⟩))
          ⊢ wp frame (wpE (defs₀ (F := F)) Variants.none c none) Set.univ
            (cc0__quadform_kernel (grid0.coords t) arg1 harg1 (Memref.whole main_arg1) (Memref.isWhole_whole _) arg3 harg3
              (Memref.whole cc0_scratch0) (Memref.isWhole_whole _) (Memref.whole cc0_scratch1) (Memref.isWhole_whole _)
              (Memref.whole cc0_scratch2) (Memref.isWhole_whole _) (Memref.whole cc0_scratch3) (Memref.isWhole_whole _) cc0_scratch4) K := by
  intro Ws K
  simp only [cc0__quadform_kernel_eq_skeleton]; unfold cc0__quadform_kernel_skel
  simp only [k0_part1_eq_skeleton, k0_part2_eq_skeleton]
  have hcanon0 : qM.slice (Rect.unit (s := S4096x4096) (k0_off2 (grid0.coords t)) S512x4096.size (k0_off2_inb (grid0.coords t) h3)) (fun _ => rfl) = rowsM b2 :=
    Memref.slice_unit_congr _ (by rw [k0_off2_eq, coord_eq, hb2]; simp [Nat.mul_add]) _ _ (fun _ => rfl) (fun _ => rfl)
  unfold busy idle owns
  iintro ⟨⟨%f0, %hf0, H0⟩, ⟨%facc, %hfacc, HS⟩, ⟨⟨%fC, HfC⟩, HrC⟩, ⟨HfA, HrA⟩, ⟨HcB, ⟨%fB, HsB⟩, HwB⟩, HW, Hk⟩
  ihave HspB := (split_rows c W shB b2).1 $$ HwB
  icases HspB with ⟨HhB, HrB⟩
  obtain rfl := harg1.eq_unread hf0
  obtain rfl := (Memref.isWhole_whole cc0_scratch3).eq_unread hfacc
  sl_exec (disch := first | sl_exact h0 | sl_exact h2 | sl_exact h3 | sl_exact h4 | sl_exact h5 | sl_exact h6 | sl_exact h7 | sl_exact h8)
  sl_step
  iapply Hk
  isplitl [H0]
  · iexists _; isplitr; · ipureintro; exact harg1.read_unread _
    iexact H0
  isplitl [HS]
  · iexists _; isplitr; swap; · iexact HS
    ipureintro
    rw [View.read_writes_full]
    unfold run_C.sl.v102 run_C.sl.v103
    have e1 := load_cols harg1 x0 b (k0_off9_inb (grid0.coords t) h7) (by rw [k0_off9_eq, coord_eq, hb])
    have e2 := load_slot slotC.view (qBlock W b) inb_S512x4096_S512x4096_0_0
    have e3 := load_acc (Memref.isWhole_whole cc0_scratch3) acc inb_S128x4096_S128x4096_0_0
    exact (congrFun (congrArg₂ k0_pay2 e1 e2) _).trans (congrArg (k0_pay2 _ _) e3)
  isplitl [HfA HrA]
  · isplitl [HfA]; · iexact HfA
    iexact HrA
  isplitl [HcB HrB]
  · isplitl [HcB]
    · iexists _; iexact HcB
    iexact HrB
  isplitl [HfC HfC_dst HfC_src HrC]
  · isplitl [HfC]; · iexact HfC
    isplitl [HfC_dst]
    · iexists _; iexact HfC_dst
    iapply (split_rows c W shC b).2; isplitl [HfC_src]; · iexact HfC_src
    iexact HrC
  iexists _; iexact HW

set_option maxHeartbeats 1000000 in
/-- Block 3: the next copy goes to the third slot, the first slot is multiplied in. -/
theorem run_D (c : Dev nD) (t : Fin cfg0.N) (b b1 b2 : Fin 8)
    (arg1 : Memref sig .tc .vmem S128x4096 .f32) (harg1 : arg1.IsWhole) (arg3 : Memref sig .tc .vmem S1x128 .f32) (harg3 : arg3.IsWhole)
    (h0 : ¬atStart (grid0.coords t)) (h2 : ¬start0 (grid0.coords t)) (h3 : ¬start1 (grid0.coords t)) (h4 : start2 (grid0.coords t)) (h5 : use0 (grid0.coords t)) (h6 : ¬use1 (grid0.coords t)) (h7 : ¬use2 (grid0.coords t)) (h8 : ¬atEnd (grid0.coords t))
    (hb : b.val = t.val) (hb2 : b2.val = t.val + 2)
    (x0 : Vec F S128x4096 .f32) (W : Cont (F := F) c qM) (acc : Vec F S128x4096 .f32) :
      ∀ (Ws : Waits sig Unit) (K : PUnit → sProp 𝕄),
        iprop(owns (c : Thread nD τ) arg1 fullShare x0 ∗ owns (c : Thread nD τ) accM fullShare acc
            ∗ busy c W slotA (SemLoc.dma 2) shA b ∗ busy c W slotB (SemLoc.dma 3) shB b1 ∗ idle c W slotC (SemLoc.dma 4) shC
            ∗ owes (c : Thread nD τ) 0 Ws
            ∗ (iprop(owns (c : Thread nD τ) arg1 fullShare x0 ∗ owns (c : Thread nD τ) accM fullShare (accStep x0 W b acc)
              ∗ busy c W slotB (SemLoc.dma 3) shB b1 ∗ busy c W slotC (SemLoc.dma 4) shC b2 ∗ idle c W slotA (SemLoc.dma 2) shA
              ∗ (∃ W', owes (c : Thread nD τ) 0 W')) -∗ K ⟨⟩))
          ⊢ wp frame (wpE (defs₀ (F := F)) Variants.none c none) Set.univ
            (cc0__quadform_kernel (grid0.coords t) arg1 harg1 (Memref.whole main_arg1) (Memref.isWhole_whole _) arg3 harg3
              (Memref.whole cc0_scratch0) (Memref.isWhole_whole _) (Memref.whole cc0_scratch1) (Memref.isWhole_whole _)
              (Memref.whole cc0_scratch2) (Memref.isWhole_whole _) (Memref.whole cc0_scratch3) (Memref.isWhole_whole _) cc0_scratch4) K := by
  intro Ws K
  simp only [cc0__quadform_kernel_eq_skeleton]; unfold cc0__quadform_kernel_skel
  simp only [k0_part1_eq_skeleton, k0_part2_eq_skeleton]
  have hcanon0 : qM.slice (Rect.unit (s := S4096x4096) (k0_off3 (grid0.coords t)) S512x4096.size (k0_off3_inb (grid0.coords t) h4)) (fun _ => rfl) = rowsM b2 :=
    Memref.slice_unit_congr _ (by rw [k0_off3_eq, coord_eq, hb2]; simp [Nat.mul_add]) _ _ (fun _ => rfl) (fun _ => rfl)
  unfold busy idle owns
  iintro ⟨⟨%f0, %hf0, H0⟩, ⟨%facc, %hfacc, HS⟩, ⟨⟨%fA, HfA⟩, HrA⟩, ⟨HfB, HrB⟩, ⟨HcC, ⟨%fC, HsC⟩, HwC⟩, HW, Hk⟩
  ihave HspC := (split_rows c W shC b2).1 $$ HwC
  icases HspC with ⟨HhC, HrC⟩
  obtain rfl := harg1.eq_unread hf0
  obtain rfl := (Memref.isWhole_whole cc0_scratch3).eq_unread hfacc
  sl_exec (disch := first | sl_exact h0 | sl_exact h2 | sl_exact h3 | sl_exact h4 | sl_exact h5 | sl_exact h6 | sl_exact h7 | sl_exact h8)
  sl_step
  iapply Hk
  isplitl [H0]
  · iexists _; isplitr; · ipureintro; exact harg1.read_unread _
    iexact H0
  isplitl [HS]
  · iexists _; isplitr; swap; · iexact HS
    ipureintro
    rw [View.read_writes_full]
    unfold run_D.sl.v103
    have e1 := load_cols harg1 x0 b (k0_off5_inb (grid0.coords t) h5) (by rw [k0_off5_eq, coord_eq, hb])
    have e2 := load_slot slotA.view (qBlock W b) inb_S512x4096_S512x4096_0_0
    have e3 := load_acc (Memref.isWhole_whole cc0_scratch3) acc inb_S128x4096_S128x4096_0_0
    exact (congrFun (congrArg₂ k0_pay5 e1 e2) _).trans (congrArg (k0_pay5 _ _) e3)
  isplitl [HfB HrB]
  · isplitl [HfB]; · iexact HfB
    iexact HrB
  isplitl [HcC HrC]
  · isplitl [HcC]
    · iexists _; iexact HcC
    iexact HrC
  isplitl [HfA HfA_dst HfA_src HrA]
  · isplitl [HfA]; · iexact HfA
    isplitl [HfA_dst]
    · iexists _; iexact HfA_dst
    iapply (split_rows c W shA b).2; isplitl [HfA_src]; · iexact HfA_src
    iexact HrA
  iexists _; iexact HW

set_option maxHeartbeats 1000000 in
/-- Block 6: nothing is left to start, the first slot is multiplied in. -/
theorem run_E (c : Dev nD) (t : Fin cfg0.N) (b : Fin 8)
    (arg1 : Memref sig .tc .vmem S128x4096 .f32) (harg1 : arg1.IsWhole) (arg3 : Memref sig .tc .vmem S1x128 .f32) (harg3 : arg3.IsWhole)
    (h0 : ¬atStart (grid0.coords t)) (h2 : ¬start0 (grid0.coords t)) (h3 : ¬start1 (grid0.coords t)) (h4 : ¬start2 (grid0.coords t)) (h5 : use0 (grid0.coords t)) (h6 : ¬use1 (grid0.coords t)) (h7 : ¬use2 (grid0.coords t)) (h8 : ¬atEnd (grid0.coords t))
    (hb : b.val = t.val)
    (x0 : Vec F S128x4096 .f32) (W : Cont (F := F) c qM) (acc : Vec F S128x4096 .f32) :
      ∀ (Ws : Waits sig Unit) (K : PUnit → sProp 𝕄),
        iprop(owns (c : Thread nD τ) arg1 fullShare x0 ∗ owns (c : Thread nD τ) accM fullShare acc
            ∗ busy c W slotA (SemLoc.dma 2) shA b
            ∗ owes (c : Thread nD τ) 0 Ws
            ∗ (iprop(owns (c : Thread nD τ) arg1 fullShare x0 ∗ owns (c : Thread nD τ) accM fullShare (accStep x0 W b acc)
              ∗ idle c W slotA (SemLoc.dma 2) shA
              ∗ (∃ W', owes (c : Thread nD τ) 0 W')) -∗ K ⟨⟩))
          ⊢ wp frame (wpE (defs₀ (F := F)) Variants.none c none) Set.univ
            (cc0__quadform_kernel (grid0.coords t) arg1 harg1 (Memref.whole main_arg1) (Memref.isWhole_whole _) arg3 harg3
              (Memref.whole cc0_scratch0) (Memref.isWhole_whole _) (Memref.whole cc0_scratch1) (Memref.isWhole_whole _)
              (Memref.whole cc0_scratch2) (Memref.isWhole_whole _) (Memref.whole cc0_scratch3) (Memref.isWhole_whole _) cc0_scratch4) K := by
  intro Ws K
  simp only [cc0__quadform_kernel_eq_skeleton]; unfold cc0__quadform_kernel_skel
  simp only [k0_part1_eq_skeleton, k0_part2_eq_skeleton]
  unfold busy idle owns
  iintro ⟨⟨%f0, %hf0, H0⟩, ⟨%facc, %hfacc, HS⟩, ⟨⟨%fA, HfA⟩, HrA⟩, HW, Hk⟩
  obtain rfl := harg1.eq_unread hf0
  obtain rfl := (Memref.isWhole_whole cc0_scratch3).eq_unread hfacc
  sl_exec (disch := first | sl_exact h0 | sl_exact h2 | sl_exact h3 | sl_exact h4 | sl_exact h5 | sl_exact h6 | sl_exact h7 | sl_exact h8)
  sl_step
  iapply Hk
  isplitl [H0]
  · iexists _; isplitr; · ipureintro; exact harg1.read_unread _
    iexact H0
  isplitl [HS]
  · iexists _; isplitr; swap; · iexact HS
    ipureintro
    rw [View.read_writes_full]
    unfold run_E.sl.v103
    have e1 := load_cols harg1 x0 b (k0_off5_inb (grid0.coords t) h5) (by rw [k0_off5_eq, coord_eq, hb])
    have e2 := load_slot slotA.view (qBlock W b) inb_S512x4096_S512x4096_0_0
    have e3 := load_acc (Memref.isWhole_whole cc0_scratch3) acc inb_S128x4096_S128x4096_0_0
    exact (congrFun (congrArg₂ k0_pay5 e1 e2) _).trans (congrArg (k0_pay5 _ _) e3)
  isplitl [HfA HfA_dst HfA_src HrA]
  · isplitl [HfA]; · iexact HfA
    isplitl [HfA_dst]
    · iexists _; iexact HfA_dst
    iapply (split_rows c W shA b).2; isplitl [HfA_src]; · iexact HfA_src
    iexact HrA
  iexists _; iexact HW

set_option maxHeartbeats 1000000 in
/-- Block 7: the second slot is multiplied in and the row sums are stored. -/
theorem run_F (c : Dev nD) (t : Fin cfg0.N) (b : Fin 8)
    (arg1 : Memref sig .tc .vmem S128x4096 .f32) (harg1 : arg1.IsWhole) (arg3 : Memref sig .tc .vmem S1x128 .f32) (harg3 : arg3.IsWhole)
    (h0 : ¬atStart (grid0.coords t)) (h2 : ¬start0 (grid0.coords t)) (h3 : ¬start1 (grid0.coords t)) (h4 : ¬start2 (grid0.coords t)) (h5 : ¬use0 (grid0.coords t)) (h6 : use1 (grid0.coords t)) (h7 : ¬use2 (grid0.coords t)) (h8 : atEnd (grid0.coords t))
    (hb : b.val = t.val)
    (x0 : Vec F S128x4096 .f32) (W : Cont (F := F) c qM) (acc : Vec F S128x4096 .f32) (d3 : Vec F S1x128 .f32) :
      ∀ (Ws : Waits sig Unit) (K : PUnit → sProp 𝕄),
        iprop(owns (c : Thread nD τ) arg1 fullShare x0 ∗ owns (c : Thread nD τ) arg3 fullShare d3 ∗ owns (c : Thread nD τ) accM fullShare acc
            ∗ busy c W slotB (SemLoc.dma 3) shB b
            ∗ owes (c : Thread nD τ) 0 Ws
            ∗ (iprop(owns (c : Thread nD τ) arg1 fullShare x0 ∗ owns (c : Thread nD τ) arg3 fullShare (k0_pay3 (accStep x0 W b acc) x0)
              ∗ owns (c : Thread nD τ) accM fullShare (accStep x0 W b acc)
              ∗ idle c W slotB (SemLoc.dma 3) shB
              ∗ (∃ W', owes (c : Thread nD τ) 0 W')) -∗ K ⟨⟩))
          ⊢ wp frame (wpE (defs₀ (F := F)) Variants.none c none) Set.univ
            (cc0__quadform_kernel (grid0.coords t) arg1 harg1 (Memref.whole main_arg1) (Memref.isWhole_whole _) arg3 harg3
              (Memref.whole cc0_scratch0) (Memref.isWhole_whole _) (Memref.whole cc0_scratch1) (Memref.isWhole_whole _)
              (Memref.whole cc0_scratch2) (Memref.isWhole_whole _) (Memref.whole cc0_scratch3) (Memref.isWhole_whole _) cc0_scratch4) K := by
  intro Ws K
  simp only [cc0__quadform_kernel_eq_skeleton]; unfold cc0__quadform_kernel_skel
  simp only [k0_part1_eq_skeleton, k0_part2_eq_skeleton]
  unfold busy idle owns
  iintro ⟨⟨%f0, %hf0, H0⟩, ⟨%f3, %hf3, H3⟩, ⟨%facc, %hfacc, HS⟩, ⟨⟨%fB, HfB⟩, HrB⟩, HW, Hk⟩
  obtain rfl := harg1.eq_unread hf0
  obtain rfl := (Memref.isWhole_whole cc0_scratch3).eq_unread hfacc
  sl_exec (disch := first | sl_exact h0 | sl_exact h2 | sl_exact h3 | sl_exact h4 | sl_exact h5 | sl_exact h6 | sl_exact h7 | sl_exact h8)
  sl_step
  iapply Hk
  isplitl [H0]
  · iexists _; isplitr; · ipureintro; exact harg1.read_unread _
    iexact H0
  isplitl [H3]
  · iexists _; isplitr; swap; · iexact H3
    ipureintro
    rw [View.read_writes_full]
    unfold run_F.sl.v96 run_F.sl.HS_1
    have e1 := load_cols harg1 x0 b (k0_off7_inb (grid0.coords t) h6) (by rw [k0_off7_eq, coord_eq, hb])
    have e2 := load_slot slotB.view (qBlock W b) inb_S512x4096_S512x4096_0_0
    have e3 := load_acc (Memref.isWhole_whole cc0_scratch3) acc inb_S128x4096_S128x4096_0_0
    have e4 := load_x harg1 x0 inb_S128x4096_S128x4096_0_0
    have e5 : _ = accStep x0 W b acc := (congrFun (congrArg₂ k0_pay1 e1 e2) _).trans (congrArg (k0_pay1 _ _) e3)
    exact congrArg₂ k0_pay3 ((load_stored _ inb_S128x4096_S128x4096_0_0).trans e5) e4
  isplitl [HS]
  · iexists _; isplitr; swap; · iexact HS
    ipureintro
    unfold run_F.sl.HS_1
    rw [View.read_writes_full]
    unfold run_F.sl.v102 run_F.sl.v103
    have e1 := load_cols harg1 x0 b (k0_off7_inb (grid0.coords t) h6) (by rw [k0_off7_eq, coord_eq, hb])
    have e2 := load_slot slotB.view (qBlock W b) inb_S512x4096_S512x4096_0_0
    have e3 := load_acc (Memref.isWhole_whole cc0_scratch3) acc inb_S128x4096_S128x4096_0_0
    exact (congrFun (congrArg₂ k0_pay1 e1 e2) _).trans (congrArg (k0_pay1 _ _) e3)
  isplitl [HfB HfB_dst HfB_src HrB]
  · isplitl [HfB]; · iexact HfB
    isplitl [HfB_dst]
    · iexists _; iexact HfB_dst
    iapply (split_rows c W shB b).2; isplitl [HfB_src]; · iexact HfB_src
    iexact HrB
  iexists _; iexact HW

set_option maxHeartbeats 1000000 in
/-- Block 0: the accumulator is cleared, the first three copies are started, the first slot is multiplied in. -/
theorem run_A (c : Dev nD) (t : Fin cfg0.N) (b b1 b2 : Fin 8)
    (arg1 : Memref sig .tc .vmem S128x4096 .f32) (harg1 : arg1.IsWhole) (arg3 : Memref sig .tc .vmem S1x128 .f32) (harg3 : arg3.IsWhole)
    (h0 : atStart (grid0.coords t)) (h2 : ¬start0 (grid0.coords t)) (h3 : ¬start1 (grid0.coords t)) (h4 : start2 (grid0.coords t)) (h5 : use0 (grid0.coords t)) (h6 : ¬use1 (grid0.coords t)) (h7 : ¬use2 (grid0.coords t)) (h8 : ¬atEnd (grid0.coords t))
    (hb : b.val = t.val) (hb0 : b.val = 0) (hb1 : b1.val = 1) (hb2 : b2.val = t.val + 2)
    (x0 : Vec F S128x4096 .f32) (W : Cont (F := F) c qM) (acc : Vec F S128x4096 .f32) :
      ∀ (Ws : Waits sig Unit) (K : PUnit → sProp 𝕄),
        iprop(owns (c : Thread nD τ) arg1 fullShare x0 ∗ owns (c : Thread nD τ) accM fullShare acc
            ∗ idle c W slotA (SemLoc.dma 2) shA ∗ idle c W slotB (SemLoc.dma 3) shB ∗ idle c W slotC (SemLoc.dma 4) shC
            ∗ owes (c : Thread nD τ) 0 Ws
            ∗ (iprop(owns (c : Thread nD τ) arg1 fullShare x0 ∗ owns (c : Thread nD τ) accM fullShare (accStep x0 W b k0_pay4)
              ∗ busy c W slotB (SemLoc.dma 3) shB b1 ∗ busy c W slotC (SemLoc.dma 4) shC b2 ∗ idle c W slotA (SemLoc.dma 2) shA
              ∗ (∃ W', owes (c : Thread nD τ) 0 W')) -∗ K ⟨⟩))
          ⊢ wp frame (wpE (defs₀ (F := F)) Variants.none c none) Set.univ
            (cc0__quadform_kernel (grid0.coords t) arg1 harg1 (Memref.whole main_arg1) (Memref.isWhole_whole _) arg3 harg3
              (Memref.whole cc0_scratch0) (Memref.isWhole_whole _) (Memref.whole cc0_scratch1) (Memref.isWhole_whole _)
              (Memref.whole cc0_scratch2) (Memref.isWhole_whole _) (Memref.whole cc0_scratch3) (Memref.isWhole_whole _) cc0_scratch4) K := by
  intro Ws K
  simp only [cc0__quadform_kernel_eq_skeleton]; unfold cc0__quadform_kernel_skel
  simp only [k0_part1_eq_skeleton, k0_part2_eq_skeleton]
  have hcanon0 : qM.slice (Rect.unit (s := S4096x4096) ![0, 0] S512x4096.size inb_S4096x4096_S512x4096_0_0) (fun _ => rfl) = rowsM b :=
    Memref.slice_unit_congr _ (by rw [hb0]) _ _ (fun _ => rfl) (fun _ => rfl)
  have hcanon1 : qM.slice (Rect.unit (s := S4096x4096) ![512, 0] S512x4096.size inb_S4096x4096_S512x4096_512_0) (fun _ => rfl) = rowsM b1 :=
    Memref.slice_unit_congr _ (by rw [hb1]) _ _ (fun _ => rfl) (fun _ => rfl)
  have hcanon2 : qM.slice (Rect.unit (s := S4096x4096) (k0_off3 (grid0.coords t)) S512x4096.size (k0_off3_inb (grid0.coords t) h4)) (fun _ => rfl) = rowsM b2 :=
    Memref.slice_unit_congr _ (by rw [k0_off3_eq, coord_eq, hb2]; simp [Nat.mul_add]) _ _ (fun _ => rfl) (fun _ => rfl)
  unfold busy idle owns
  iintro ⟨⟨%f0, %hf0, H0⟩, ⟨%facc, %hfacc, HS⟩, ⟨HcA, ⟨%fA, HsA⟩, HwA⟩, ⟨HcB, ⟨%fB, HsB⟩, HwB⟩, ⟨HcC, ⟨%fC, HsC⟩, HwC⟩, HW, Hk⟩
  ihave HspA := (split_rows c W shA b).1 $$ HwA
  icases HspA with ⟨HhA, HrA⟩
  ihave HspB := (split_rows c W shB b1).1 $$ HwB
  icases HspB with ⟨HhB, HrB⟩
  ihave HspC := (split_rows c W shC b2).1 $$ HwC
  icases HspC with ⟨HhC, HrC⟩
  obtain rfl := harg1.eq_unread hf0
  sl_exec (disch := first | sl_exact h0 | sl_exact h2 | sl_exact h3 | sl_exact h4 | sl_exact h5 | sl_exact h6 | sl_exact h7 | sl_exact h8)
  sl_step
  iapply Hk
  isplitl [H0]
  · iexists _; isplitr; · ipureintro; exact harg1.read_unread _
    iexact H0
  isplitl [HS]
  · iexists _; isplitr; swap; · iexact HS
    ipureintro
    rw [View.read_writes_full]
    unfold run_A.sl.v103 run_A.sl.v105 run_A.sl.HS_1
    have e1 := load_cols harg1 x0 b (k0_off5_inb (grid0.coords t) h5) (by rw [k0_off5_eq, coord_eq, hb])
    have e2 := load_slot slotA.view (qBlock W b) inb_S512x4096_S512x4096_0_0
    have e3 := load_stored (F := F) k0_pay4 inb_S128x4096_S128x4096_0_0
    exact (congrFun (congrArg₂ k0_pay5 e1 e2) _).trans (congrArg (k0_pay5 _ _) e3)
  isplitl [HcB HrB]
  · isplitl [HcB]
    · iexists _; iexact HcB
    iexact HrB
  isplitl [HcC HrC]
  · isplitl [HcC]
    · iexists _; iexact HcC
    iexact HrC
  isplitl [HcA HsA HhA HrA]
  · isplitl [HcA]; · iexact HcA
    isplitl [HsA]
    · iexists _; iexact HsA
    iapply (split_rows c W shA b).2; isplitl [HhA]; · iexact HhA
    iexact HrA
  iexists _; iexact HW

end Cert.KernelIdeal.Flow

end
-- ==== Proof.Ideal.Flow.lean ====
/- What the kernel's own buffers hold before each grid point, and that one point carries it on. -/
module

public import proofs.«01_k».proof.Proof.Ideal.Steps
public import Idealize.ShloMosaic.Lib.Pipeline.ValueKit

@[expose] public section

set_option maxRecDepth 16384

noncomputable section

namespace Cert.KernelIdeal.Flow

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The values -/

/-- The two arguments, as the region finds them. -/
abbrev wts (c : Dev nD) : Cont (F := F) c qM := V m c main_arg1
abbrev inp (c : Dev nD) : Vec F S128x4096 .f32 := m ((c : Thread nD τ).loc main_arg0)
/-- Each window's block is its whole array. -/
theorem corner : ∀ t : Fin cfg0.N, win0_0.index t = ![0, 0] ∧ win0_1.index t = ![0, 0] :=
  (by decide +kernel : ∀ t : Fin grid0.N, _)
theorem inp_eq (c : Dev nD) (t : Fin cfg0.N) : iblk m c 0 t = inp m c := by
  blk_ext! [iblk, V, corner t]

/-- The accumulator after the first `k` blocks. -/
def accv (c : Dev nD) : ℕ → Vec F S128x4096 .f32
  | 0 => k0_pay4
  | k + 1 => if h : k < 8 then accStep (inp m c) (wts m c) ⟨k, h⟩ (accv c k) else accv c k
theorem accv_succ (c : Dev nD) (b : Fin 8) {k : ℕ} (h : b.val = k) :
    accv m c (k + 1) = accStep (inp m c) (wts m c) b (accv m c k) := by
  subst h; rw [accv, dif_pos b.isLt]
/-- What the last point stores. -/
def outv (c : Dev nD) : Vec F S1x128 .f32 := k0_pay3 (accv m c 8) (inp m c)

/-! ## Which block is on its way into each slot before point `k` -/

def tabA : ℕ → Option (Fin 8)
  | 2 => some 3 | 3 => some 3 | 5 => some 6 | 6 => some 6 | _ => none
def tabB : ℕ → Option (Fin 8)
  | 1 => some 1 | 3 => some 4 | 4 => some 4 | 6 => some 7 | 7 => some 7 | _ => none
def tabC : ℕ → Option (Fin 8)
  | 1 => some 2 | 2 => some 2 | 4 => some 5 | 5 => some 5 | _ => none

/-- The accumulator before point `k`: anything before the first point. -/
def accAt (c : Dev nD) : ℕ → sProp 𝕄
  | 0 => iprop(∃ d, owns (c : Thread nD τ) accM fullShare d)
  | k + 1 => owns (c : Thread nD τ) accM fullShare (accv m c (k + 1))

def Phi (c : Dev nD) (k : ℕ) : sProp 𝕄 :=
  iprop(accAt m c k ∗ (∃ r, prngReg c r) ∗ slotAt c (wts m c) slotA (SemLoc.dma 2) shA (tabA k)
    ∗ slotAt c (wts m c) slotB (SemLoc.dma 3) shB (tabB k) ∗ slotAt c (wts m c) slotC (SemLoc.dma 4) shC (tabC k))

theorem accAt_pos (c : Dev nD) {k : ℕ} (h : k ≠ 0) : accAt m c k = owns (c : Thread nD τ) accM fullShare (accv m c k) := by
  obtain ⟨n, rfl⟩ := Nat.exists_eq_succ_of_ne_zero h; rfl

/-! ## One point -/

abbrev Body (c : Dev nD) (t : Fin cfg0.N) (K : PUnit → sProp 𝕄) : sProp 𝕄 :=
  wp frame (wpE (defs₀ (F := F)) Variants.none c none) Set.univ (bodyAt0 t) K

/-- A point before the last: the output buffer is not touched. -/
def PointKeeps (c : Dev nD) (t : Fin cfg0.N) : Prop :=
  ∀ (Ws : Waits sig Unit) (K : PUnit → sProp 𝕄),
    iprop(Phi m c t.val ∗ owns (c : Thread nD τ) (xM t) fullShare (inp m c) ∗ owes (c : Thread nD τ) 0 Ws
      ∗ (iprop(Phi m c (t.val + 1) ∗ owns (c : Thread nD τ) (xM t) fullShare (inp m c) ∗ (∃ W', owes (c : Thread nD τ) 0 W')) -∗ K ⟨⟩))
    ⊢ Body c t K

theorem point_A (c : Dev nD) (t : Fin cfg0.N) (ht : t.val = 0) : PointKeeps m c t := by
  intro Ws K
  have hb := branches t
  unfold Phi
  rw [accAt_pos m c (Nat.succ_ne_zero t.val), accv_succ m c 0 ht.symm]
  rw [ht]
  simp only [tabA, tabB, tabC, slotAt, accAt, accv]
  iintro ⟨⟨⟨%d, Ha⟩, Hr, HA, HB, HC⟩, Hx, Ho, Hk⟩
  iapply (run_A c t 0 1 2 (xM t) (xMwhole t) (oM t) (oMwhole t) (by rw [hb.1]; omega) (by rw [hb.2.1]; omega) (by rw [hb.2.2.1]; omega)
    (by rw [hb.2.2.2.1]; omega) (by rw [hb.2.2.2.2.1]; omega) (by rw [hb.2.2.2.2.2.1]; omega) (by rw [hb.2.2.2.2.2.2.1]; omega)
    (by rw [hb.2.2.2.2.2.2.2]; omega) ht.symm rfl rfl (by rw [ht]; rfl) (inp m c) (wts m c) d Ws K)
  isplitl [Hx]; · iexact Hx
  isplitl [Ha]; · iexact Ha
  isplitl [HA]; · iexact HA
  isplitl [HB]; · iexact HB
  isplitl [HC]; · iexact HC
  isplitl [Ho]; · iexact Ho
  iintro ⟨Hx, Ha, HB, HC, HA, Ho⟩
  iapply Hk
  isplitl [Ha Hr HA HB HC]
  · isplitl [Ha]; · iexact Ha
    isplitl [Hr]; · iexact Hr
    isplitl [HA]; · iexact HA
    isplitl [HB]; · iexact HB
    iexact HC
  isplitl [Hx]; · iexact Hx
  iexact Ho

theorem point_B (c : Dev nD) (t : Fin cfg0.N) (b b1 b2 : Fin 8) (ht : t.val = 1 ∨ t.val = 4)
    (hbt : b.val = t.val) (hbt2 : b2.val = t.val + 2)
    (kB : tabB t.val = some b) (kC : tabC t.val = some b1) (kA : tabA t.val = none)
    (lB : tabB (t.val + 1) = none) (lC : tabC (t.val + 1) = some b1) (lA : tabA (t.val + 1) = some b2) :
    PointKeeps m c t := by
  intro Ws K
  have hb := branches t
  unfold Phi
  rw [accAt_pos m c (Nat.succ_ne_zero t.val), accv_succ m c b hbt, accAt_pos m c (show t.val ≠ 0 by omega)]
  rw [kA, kB, kC, lA, lB, lC]
  simp only [slotAt]
  iintro ⟨⟨Ha, Hr, HA, HB, HC⟩, Hx, Ho, Hk⟩
  iapply (run_B c t b b1 b2 (xM t) (xMwhole t) (oM t) (oMwhole t) (by rw [hb.1]; omega) (by rw [hb.2.1]; omega) (by rw [hb.2.2.1]; omega)
    (by rw [hb.2.2.2.1]; omega) (by rw [hb.2.2.2.2.1]; omega) (by rw [hb.2.2.2.2.2.1]; omega) (by rw [hb.2.2.2.2.2.2.1]; omega)
    (by rw [hb.2.2.2.2.2.2.2]; omega)
    hbt hbt2 (inp m c) (wts m c) (accv m c t.val) Ws K)
  isplitl [Hx]; · iexact Hx
  isplitl [Ha]; · iexact Ha
  isplitl [HB]; · iexact HB
  isplitl [HC]; · iexact HC
  isplitl [HA]; · iexact HA
  isplitl [Ho]; · iexact Ho
  iintro ⟨Hx, Ha, HC, HA, HB, Ho⟩
  iapply Hk
  isplitl [Ha Hr HA HB HC]
  · isplitl [Ha]; · iexact Ha
    isplitl [Hr]; · iexact Hr
    isplitl [HA]; · iexact HA
    isplitl [HB]; · iexact HB
    iexact HC
  isplitl [Hx]; · iexact Hx
  iexact Ho

theorem point_C (c : Dev nD) (t : Fin cfg0.N) (b b1 b2 : Fin 8) (ht : t.val = 2 ∨ t.val = 5)
    (hbt : b.val = t.val) (hbt2 : b2.val = t.val + 2)
    (kC : tabC t.val = some b) (kA : tabA t.val = some b1) (kB : tabB t.val = none)
    (lC : tabC (t.val + 1) = none) (lA : tabA (t.val + 1) = some b1) (lB : tabB (t.val + 1) = some b2) :
    PointKeeps m c t := by
  intro Ws K
  have hb := branches t
  unfold Phi
  rw [accAt_pos m c (Nat.succ_ne_zero t.val), accv_succ m c b hbt, accAt_pos m c (show t.val ≠ 0 by omega)]
  rw [kA, kB, kC, lA, lB, lC]
  simp only [slotAt]
  iintro ⟨⟨Ha, Hr, HA, HB, HC⟩, Hx, Ho, Hk⟩
  iapply (run_C c t b b1 b2 (xM t) (xMwhole t) (oM t) (oMwhole t) (by rw [hb.1]; omega) (by rw [hb.2.1]; omega) (by rw [hb.2.2.1]; omega)
    (by rw [hb.2.2.2.1]; omega) (by rw [hb.2.2.2.2.1]; omega) (by rw [hb.2.2.2.2.2.1]; omega) (by rw [hb.2.2.2.2.2.2.1]; omega)
    (by rw [hb.2.2.2.2.2.2.2]; omega)
    hbt hbt2 (inp m c) (wts m c) (accv m c t.val) Ws K)
  isplitl [Hx]; · iexact Hx
  isplitl [Ha]; · iexact Ha
  isplitl [HC]; · iexact HC
  isplitl [HA]; · iexact HA
  isplitl [HB]; · iexact HB
  isplitl [Ho]; · iexact Ho
  iintro ⟨Hx, Ha, HA, HB, HC, Ho⟩
  iapply Hk
  isplitl [Ha Hr HA HB HC]
  · isplitl [Ha]; · iexact Ha
    isplitl [Hr]; · iexact Hr
    isplitl [HA]; · iexact HA
    isplitl [HB]; · iexact HB
    iexact HC
  isplitl [Hx]; · iexact Hx
  iexact Ho

theorem point_D (c : Dev nD) (t : Fin cfg0.N) (b b1 b2 : Fin 8) (ht : t.val = 3)
    (hbt : b.val = t.val) (hbt2 : b2.val = t.val + 2)
    (kA : tabA t.val = some b) (kB : tabB t.val = some b1) (kC : tabC t.val = none)
    (lA : tabA (t.val + 1) = none) (lB : tabB (t.val + 1) = some b1) (lC : tabC (t.val + 1) = some b2) :
    PointKeeps m c t := by
  intro Ws K
  have hb := branches t
  unfold Phi
  rw [accAt_pos m c (Nat.succ_ne_zero t.val), accv_succ m c b hbt, accAt_pos m c (show t.val ≠ 0 by omega)]
  rw [kA, kB, kC, lA, lB, lC]
  simp only [slotAt]
  iintro ⟨⟨Ha, Hr, HA, HB, HC⟩, Hx, Ho, Hk⟩
  iapply (run_D c t b b1 b2 (xM t) (xMwhole t) (oM t) (oMwhole t) (by rw [hb.1]; omega) (by rw [hb.2.1]; omega) (by rw [hb.2.2.1]; omega)
    (by rw [hb.2.2.2.1]; omega) (by rw [hb.2.2.2.2.1]; omega) (by rw [hb.2.2.2.2.2.1]; omega) (by rw [hb.2.2.2.2.2.2.1]; omega)
    (by rw [hb.2.2.2.2.2.2.2]; omega)
    hbt hbt2 (inp m c) (wts m c) (accv m c t.val) Ws K)
  isplitl [Hx]; · iexact Hx
  isplitl [Ha]; · iexact Ha
  isplitl [HA]; · iexact HA
  isplitl [HB]; · iexact HB
  isplitl [HC]; · iexact HC
  isplitl [Ho]; · iexact Ho
  iintro ⟨Hx, Ha, HB, HC, HA, Ho⟩
  iapply Hk
  isplitl [Ha Hr HA HB HC]
  · isplitl [Ha]; · iexact Ha
    isplitl [Hr]; · iexact Hr
    isplitl [HA]; · iexact HA
    isplitl [HB]; · iexact HB
    iexact HC
  isplitl [Hx]; · iexact Hx
  iexact Ho

theorem point_E (c : Dev nD) (t : Fin cfg0.N) (ht : t.val = 6) : PointKeeps m c t := by
  intro Ws K
  have hb := branches t
  unfold Phi
  rw [accAt_pos m c (Nat.succ_ne_zero t.val), accv_succ m c 6 ht.symm, accAt_pos m c (show t.val ≠ 0 by omega)]
  rw [ht]
  simp only [tabA, tabB, tabC, slotAt]
  iintro ⟨⟨Ha, Hr, HA, HB, HC⟩, Hx, Ho, Hk⟩
  iapply (run_E c t 6 (xM t) (xMwhole t) (oM t) (oMwhole t) (by rw [hb.1]; omega) (by rw [hb.2.1]; omega) (by rw [hb.2.2.1]; omega)
    (by rw [hb.2.2.2.1]; omega) (by rw [hb.2.2.2.2.1]; omega) (by rw [hb.2.2.2.2.2.1]; omega) (by rw [hb.2.2.2.2.2.2.1]; omega)
    (by rw [hb.2.2.2.2.2.2.2]; omega)
    ht.symm (inp m c) (wts m c) (accv m c 6) Ws K)
  isplitl [Hx]; · iexact Hx
  isplitl [Ha]; · iexact Ha
  isplitl [HA]; · iexact HA
  isplitl [Ho]; · iexact Ho
  iintro ⟨Hx, Ha, HA, Ho⟩
  iapply Hk
  isplitl [Ha Hr HA HB HC]
  · isplitl [Ha]; · iexact Ha
    isplitl [Hr]; · iexact Hr
    isplitl [HA]; · iexact HA
    isplitl [HB]; · iexact HB
    iexact HC
  isplitl [Hx]; · iexact Hx
  iexact Ho

/-- The last point also fills the output buffer. -/
theorem point_F (c : Dev nD) (t : Fin cfg0.N) (ht : t.val = 7) (d3 : Vec F S1x128 .f32) (Ws : Waits sig Unit) (K : PUnit → sProp 𝕄) :
    iprop(Phi m c t.val ∗ owns (c : Thread nD τ) (xM t) fullShare (inp m c) ∗ owns (c : Thread nD τ) (oM t) fullShare d3
      ∗ owes (c : Thread nD τ) 0 Ws
      ∗ (iprop(Phi m c (t.val + 1) ∗ owns (c : Thread nD τ) (xM t) fullShare (inp m c)
          ∗ owns (c : Thread nD τ) (oM t) fullShare (outv m c) ∗ (∃ W', owes (c : Thread nD τ) 0 W')) -∗ K ⟨⟩))
    ⊢ Body c t K := by
  have hb := branches t
  unfold Phi outv
  rw [accAt_pos m c (Nat.succ_ne_zero t.val), accAt_pos m c (show t.val ≠ 0 by omega), accv_succ m c 7 ht.symm]
  rw [ht, accv_succ m c 7 (k := 7) rfl]
  simp only [tabA, tabB, tabC, slotAt]
  iintro ⟨⟨Ha, Hr, HA, HB, HC⟩, Hx, Hy, Ho, Hk⟩
  iapply (run_F c t 7 (xM t) (xMwhole t) (oM t) (oMwhole t) (by rw [hb.1]; omega) (by rw [hb.2.1]; omega) (by rw [hb.2.2.1]; omega)
    (by rw [hb.2.2.2.1]; omega) (by rw [hb.2.2.2.2.1]; omega) (by rw [hb.2.2.2.2.2.1]; omega) (by rw [hb.2.2.2.2.2.2.1]; omega)
    (by rw [hb.2.2.2.2.2.2.2]; omega)
    ht.symm (inp m c) (wts m c) (accv m c 7) d3 Ws K)
  isplitl [Hx]; · iexact Hx
  isplitl [Hy]; · iexact Hy
  isplitl [Ha]; · iexact Ha
  isplitl [HB]; · iexact HB
  isplitl [Ho]; · iexact Ho
  iintro ⟨Hx, Hy, Ha, HB, Ho⟩
  iapply Hk
  isplitl [Ha Hr HA HB HC]
  · isplitl [Ha]; · iexact Ha
    isplitl [Hr]; · iexact Hr
    isplitl [HA]; · iexact HA
    isplitl [HB]; · iexact HB
    iexact HC
  isplitl [Hx]; · iexact Hx
  isplitl [Hy]; · iexact Hy
  iexact Ho

/-- Every point but the last. -/
theorem point_keeps (c : Dev nD) (t : Fin cfg0.N) (ht : t.val ≠ 7) : PointKeeps m c t := by
  have h8 : t.val < 8 := lt_of_lt_of_eq t.isLt N_0
  rcases (by omega : t.val = 0 ∨ t.val = 1 ∨ t.val = 2 ∨ t.val = 3 ∨ t.val = 4 ∨ t.val = 5 ∨ t.val = 6) with h | h | h | h | h | h | h
  · exact point_A m c t h
  · exact point_B m c t 1 2 3 (.inl h) (by rw [h]; rfl) (by rw [h]; rfl) (by rw [h]; rfl) (by rw [h]; rfl) (by rw [h]; rfl) (by rw [h]; rfl) (by rw [h]; rfl) (by rw [h]; rfl)
  · exact point_C m c t 2 3 4 (.inl h) (by rw [h]; rfl) (by rw [h]; rfl) (by rw [h]; rfl) (by rw [h]; rfl) (by rw [h]; rfl) (by rw [h]; rfl) (by rw [h]; rfl) (by rw [h]; rfl)
  · exact point_D m c t 3 4 5 h (by rw [h]; rfl) (by rw [h]; rfl) (by rw [h]; rfl) (by rw [h]; rfl) (by rw [h]; rfl) (by rw [h]; rfl) (by rw [h]; rfl) (by rw [h]; rfl)
  · exact point_B m c t 4 5 6 (.inr h) (by rw [h]; rfl) (by rw [h]; rfl) (by rw [h]; rfl) (by rw [h]; rfl) (by rw [h]; rfl) (by rw [h]; rfl) (by rw [h]; rfl) (by rw [h]; rfl)
  · exact point_C m c t 5 6 7 (.inr h) (by rw [h]; rfl) (by rw [h]; rfl) (by rw [h]; rfl) (by rw [h]; rfl) (by rw [h]; rfl) (by rw [h]; rfl) (by rw [h]; rfl) (by rw [h]; rfl)
  · exact point_E m c t h

end Cert.KernelIdeal.Flow

end
-- ==== Proof.Ideal.Launch.lean ====
/- The kernel launched: every run ends, the arguments unchanged, the counters at zero, the result at the last point's row. -/
module

public import proofs.«01_k».proof.Proof.Ideal.Flow
public import Idealize.ShloMosaic.Lib.Claim

@[expose] public section

set_option maxRecDepth 16384

noncomputable section

namespace Cert.KernelIdeal.Flow

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The arrays as the region finds them; the input's block in place after every point, the row sums in the output buffer. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outv m c
  Φ t := Phi m c t.val
  q _ := fullShare
  owed _ := 0

theorem A_eq (c : Dev nD) (w : Fin cfg0.W) : (dats m 0 c).A w = V m c (Pipeline.arrRef spec0 w) := by dsimp only [dats]
theorem after_in (c : Dev nD) (t : Fin cfg0.N) : (dats m 0 c).after 0 t = iblk m c 0 t := by dsimp only [dats]
theorem after_out (c : Dev nD) (t : Fin cfg0.N) : (dats m 0 c).after 1 t = outv m c := by dsimp only [dats]

/-- The input's buffer holds the input before every point. -/
theorem before_in (c : Dev nD) (t : Fin cfg0.N) (d) : (dats m 0 c).before 0 t d = inp m c :=
  (((dats m 0 c).before_in_eq_fetched 0 rfl (fun _ => rfl) (fun _ _ _ => rfl)
    (fun t => by rw [after_in]; unfold Dat.blockOf iblk; rw [A_eq]) t d).trans
    (by unfold Dat.fetched Dat.blockOf iblk; rw [A_eq]; rfl)).trans (inp_eq m c t)

/-- The output buffer is filled at the last point only, and written back there only. -/
theorem out_idle : ∀ t : Fin cfg0.N, t.val ≠ 7 → cfg0.idle 1 (grid0.coords t) = true ∧ (cfg0.win 1).flush t = false := by
  decide +kernel
theorem out_live : ∀ t : Fin cfg0.N, t.val = 7 → cfg0.idle 1 (grid0.coords t) = false := by decide +kernel

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (oM t) fullShare ((dats m 0 c).before 1 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

theorem sound_body (c : Dev nD) (t : Fin cfg0.N) : bodyPre m c t ⊢ Body c t (fun _ => bodyPost m c t) := by
  unfold bodyPre bodyPost
  simp only [before_in]
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  rw [show (dats m 0 c).leavesExact 0 t = owns (c : Thread nD τ) (xM t) fullShare (inp m c) from by
    unfold Dat.leavesExact; rw [show cfg0.idle 0 (grid0.coords t) = false from rfl, after_in, inp_eq]]
  by_cases ht : t.val = 7
  · rw [show (dats m 0 c).leavesExact 1 t = owns (c : Thread nD τ) (oM t) fullShare (outv m c) from by
      unfold Dat.leavesExact; rw [out_live t ht, after_out]]
    iintro ⟨HP, ⟨%W0, -, Ho⟩, ⟨%dx, Hx⟩, ⟨%dy, Hy⟩⟩
    iapply (point_F m c t ht _ W0 _)
    isplitl [HP]; · iexact HP
    isplitl [Hx]; · iexact Hx
    isplitl [Hy]; · iexact Hy
    isplitl [Ho]; · iexact Ho
    iintro ⟨HP, Hx, Hy, ⟨%W', Ho⟩⟩
    isplitl [HP]; · iexact HP
    isplitl [Ho]
    · iexists W'; isplitr; · ipureintro; exact fun _ _ => Or.inl trivial
      iexact Ho
    isplitl [Hx]; · iexact Hx
    iexact Hy
  · rw [Dat.leavesExact_idle (dats m 0 c) 1 t (out_idle t ht).1 (out_idle t ht).2]
    iintro ⟨HP, ⟨%W0, -, Ho⟩, ⟨%dx, Hx⟩, ⟨%dy, Hy⟩⟩
    iapply (point_keeps m c t ht W0 _)
    isplitl [HP]; · iexact HP
    isplitl [Hx]; · iexact Hx
    isplitl [Ho]; · iexact Ho
    iintro ⟨HP, Hx, ⟨%W', Ho⟩⟩
    isplitl [HP]; · iexact HP
    isplitl [Ho]
    · iexists W'; isplitr; · ipureintro; exact fun _ _ => Or.inl trivial
      iexact Ho
    isplitl [Hx]; · iexact Hx
    iexists _; iexact Hy

theorem body_row (t : Fin cfg0.N) : defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## Entering and leaving the region -/

theorem hin (c : Dev nD) : (Pipeline.ΦD cells spec0 moved (V m) c : sProp 𝕄) ⊢ (dats m 0 c).Φ 0 := by
  rw [launch_eq, show (dats m 0 c).Φ 0 = Phi m c 0 from rfl]
  unfold Phi
  simp only [tabA, tabB, tabC, slotAt, accAt, idle]
  iintro ⟨⟨HA, HB, HC, Ha⟩, Hr, ⟨SA, SB, SC⟩, Hw⟩
  ihave Hs := (split_shares c (wts m c)).1 $$ Hw
  icases Hs with ⟨WA, WB, WC⟩
  isplitl [Ha]; · iexact Ha
  isplitl [Hr]; · iexact Hr
  isplitl [HA SA WA]
  · isplitl [SA]; · iexact SA
    isplitl [HA]; · iexact HA
    iexact WA
  isplitl [HB SB WB]
  · isplitl [SB]; · iexact SB
    isplitl [HB]; · iexact HB
    iexact WB
  isplitl [SC]; · iexact SC
  isplitl [HC]; · iexact HC
  iexact WC

theorem hout (c : Dev nD) : (dats m 0 c).Φ (Fin.last cfg0.N) ⊢ (Pipeline.ΦD cells spec0 moved (V m) c : sProp 𝕄) := by
  rw [launch_eq, show (dats m 0 c).Φ (Fin.last cfg0.N) = Phi m c grid0.N from rfl, show grid0.N = 8 from N_0]
  unfold Phi
  simp only [tabA, tabB, tabC, slotAt, accAt, idle]
  iintro ⟨Ha, Hr, ⟨SA, HA, WA⟩, ⟨SB, HB, WB⟩, ⟨SC, HC, WC⟩⟩
  isplitl [HA HB HC Ha]
  · isplitl [HA]; · iexact HA
    isplitl [HB]; · iexact HB
    isplitl [HC]; · iexact HC
    iexists _; iexact Ha
  isplitl [Hr]; · iexact Hr
  isplitl [SA SB SC]
  · isplitl [SA]; · iexact SA
    isplitl [SB]; · iexact SB
    iexact SC
  iapply (split_shares c (wts m c)).2
  isplitl [WA]; · iexact WA
  isplitl [WB]; · iexact WB
  iexact WC

set_option maxHeartbeats 800000 in
theorem main_shape (𝒱₀ : Variants) : Pipeline.HMainK (Ix := Unit) (Name := ℕ) (U := Pipeline.UD sig nD τ) (Lvl := ℕ) cfgs 0 defs₀ 𝒱₀ m
      (main (F := F)) (V m) (fun _ => Pipeline.chain ([hostOps1].map StableHlo.seq)) :=
  Pipeline.hmain_around cfgs 0 defs₀ 𝒱₀ m main [] [hostOps1] (by simp only [List.Forall]) (by simp only [List.Forall]) main_chain

set_option backward.isDefEq.respectTransparency.types false in
set_option maxHeartbeats 800000 in
/-- The launch. -/
theorem run_all : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 cells defs₀ Variants.none cells_own moved moved_rest m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_shape m Variants.none) (hA := A_eq m) (hin := hin m) (hout := hout m)

/-! ## What a run leaves -/

theorem tail_wts (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  rfl

/-- The output array is written back once, whole. -/
theorem array_out (c : Dev nD) : (dats m 0 c).arrAt 1 cfg0.N = outv m c := by
  refine (dats m 0 c).arrAt_eq_of_after_last 1 ⟨7, by decide⟩ (by decide +kernel) _ fun j => ?_
  exact congrFun (after_out m c _) _

theorem tail_out (c : Dev nD) :
    Pipeline.afterTail₀ cfgs (dats m) 0 (V0 m) [hostOps1] c main_v1 = shapeCast S128 (outv m c) shapeCasts_S1x128_S128 := by
  unfold Pipeline.afterTail₀
  have h := Pipeline.withArrays_arr spec0 launch0.win.arr_inj c (V0 m c) (fun w => (dats m 0 c).arrAt w cfg0.N) 1
  rw [array_out] at h
  simp only [List.flatten_cons, List.flatten_nil, List.append_nil, hostOps1]
  generalize Pipeline.withArrays _ _ _ _ = X at h ⊢
  after_results
  exact congrArg (fun (v : Vec F S1x128 .f32) => shapeCast S128 v shapeCasts_S1x128_S128) h

/-- Every run ends: the result is the last point's row, the arguments are unchanged and the counters are back at zero. -/
theorem run : θ_run defs (onTc (τ := τ) (main (F := F))) ⟨m, fun _ => 0, ρ⟩ (fun r => (∀ c : Dev nD,
      r.2.mem ((c.tc : Thread nD τ).loc main_v1) = shapeCast S128 (outv m c) shapeCasts_S1x128_S128
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c).2 main_v1 (Pipeline.mem_restRefs_of main_v1 (by decide) (by decide)) |>.trans (tail_out m c),
      ((h.1 c).1 0).trans (((dats m 0 c).arrAt_in 0 rfl _).trans (A_eq m c 0)),
      ((h.1 c).2 main_arg1 (Pipeline.mem_restRefs_of main_arg1 (by decide) (by decide))).trans (tail_wts m c)⟩, h.2⟩) (run_all m ρ)

end Cert.KernelIdeal.Flow

end
-- ==== Proof.Sums.lean ====
/- Sums of finite numbers: the extended reals' sums, a sum cut at a block, the two orders of a quadratic form. -/
module

public import Idealize.ShloMosaic.PureOps
public import Mathlib.Data.EReal.Operations
public import Mathlib.Tactic.Ring
public import Mathlib.Algebra.BigOperators.Fin

@[expose] public section

namespace Cert.Sums

open Finset

/-- A finite sum of real numbers, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A number within the infinities is a real number. -/
theorem real_of_abs {x : EReal} (h : max x (-x) < ⊤) : x = ((x.toReal : ℝ) : EReal) := by
  refine (EReal.coe_toReal ?_ ?_).symm
  · rintro rfl; simp at h
  · rintro rfl; simp at h

/-- The first `k + 1` blocks of 512 terms are the first `k` blocks and the next. -/
theorem sum_block (f : ℕ → ℝ) (k : ℕ) :
    ∑ r ∈ range (512 * (k + 1)), f r = ∑ r ∈ range (512 * k), f r + ∑ i : Fin 512, f (512 * k + i.val) := by
  rw [Nat.mul_add, Nat.mul_one, Finset.sum_range_add, Fin.sum_univ_eq_sum_range (fun i => f (512 * k + i))]

/-- A quadratic form, columns first or rows first. -/
theorem form_comm (x : Fin 4096 → ℝ) (q : Fin 4096 → Fin 4096 → ℝ) :
    ∑ c, (∑ r, x r * q r c) * x c = ∑ r, x r * ∑ c, q r c * x c := by
  simp only [Finset.sum_mul, Finset.mul_sum]
  rw [Finset.sum_comm]
  exact Finset.sum_congr rfl fun r _ => Finset.sum_congr rfl fun c _ => by ring

end Cert.Sums
-- ==== Proof.Ideal.Value.lean ====
/- The kernel's row sums over finite numbers: the quadratic form, columns first. -/
module

public import proofs.«01_k».proof.Proof.Ideal.Flow
public import proofs.«01_k».proof.Proof.Sums
public import Idealize.ShloMosaic.Lib.Pointwise

@[expose] public section

noncomputable section

namespace Cert.KernelIdeal.Flow

open Cert.KernelIdeal.Gen
open Idealize.ShloMosaic Idealize.ShloMosaic.TcCoe

variable (m : (ℓ : Loc nD τ sig) → Buf (Elt Ideal) ℓ)

/-- One block's step at an entry. -/
theorem accStep_apply (c : Dev nD) (x : Vec Ideal S128x4096 .f32) (W : Cont (F := Ideal) c qM) (b : Fin 8) (acc : Vec Ideal S128x4096 .f32)
    (n : Fin 128) (j : Fin 4096) :
    accStep x W b acc (ix2 n j) = acc (ix2 n j) + ∑ i : Fin 512, xCols x b (ix2 n i) * qBlock W b (ix2 i j) := by
  unfold accStep k0_pay5
  pointwise

/-- A block of the argument's columns, at an entry. -/
theorem xCols_apply (x : Vec Ideal S128x4096 .f32) (b : Fin 8) (n : Fin 128) (i : Fin 512) :
    xCols x b (ix2 n i) = x (ix2 n ⟨512 * b.val + i.val, by omega⟩) := by
  unfold xCols VecWindow.window
  refine congrArg x (funext fun a => ?_)
  match a with
  | 0 => exact Fin.ext (by show 0 + 1 * n.val = n.val; omega)
  | 1 => exact Fin.ext (by show 512 * b.val + 1 * i.val = 512 * b.val + i.val; omega)

/-- A block of the matrix's rows, at an entry. -/
theorem qBlock_apply (c : Dev nD) (W : Cont (F := Ideal) c qM) (b : Fin 8) (i : Fin 512) (j : Fin 4096) :
    qBlock W b (ix2 i j) = W (ix2 (⟨512 * b.val + i.val, by omega⟩ : Fin 4096) j) := by
  unfold qBlock rowsM
  show W _ = W _
  refine congrArg W (funext fun a => ?_)
  match a with
  | 0 => exact Fin.ext (by show 512 * b.val + 1 * i.val = 512 * b.val + i.val; omega)
  | 1 => exact Fin.ext (by show 0 + 1 * j.val = j.val; omega)

/-- The output's entry is a row sum. -/
theorem outv_apply (c : Dev nD) (n : Fin 128) :
    shapeCast S128 (outv m c) shapeCasts_S1x128_S128 (ix1 n) = ∑ j : Fin 4096, accv m c 8 (ix2 n j) * inp m c (ix2 n j) := by
  unfold outv k0_pay3
  pointwise

/-- The accumulator begins at zero. -/
theorem pay4_apply (n : Fin 128) (j : Fin 4096) : k0_pay4 (F := Ideal) (ix2 n j) = 0 := by
  unfold k0_pay4
  pointwise

/-- A real matrix's entry, zero outside it. -/
abbrev ext (f : Fin 4096 → ℝ) (r : ℕ) : ℝ := if h : r < 4096 then f ⟨r, h⟩ else 0

/-- Over finite arguments the accumulator after `k` blocks is the product's first `512 * k` terms. -/
theorem accv_apply (c : Dev nD) (X : Fin 128 → Fin 4096 → ℝ) (Q : Fin 4096 → Fin 4096 → ℝ)
    (hX : ∀ n j, inp m c (ix2 n j) = ((X n j : ℝ) : EReal)) (hQ : ∀ i j, wts m c (ix2 i j) = ((Q i j : ℝ) : EReal)) (n : Fin 128) (j : Fin 4096) :
    ∀ k ≤ 8, accv m c k (ix2 n j) = ((∑ r ∈ Finset.range (512 * k), ext (fun r => X n r * Q r j) r : ℝ) : EReal) := by
  intro k
  induction k with
  | zero => intro _; exact (pay4_apply n j).trans (by simp)
  | succ k ih =>
    intro hk
    rw [accv_succ m c ⟨k, hk⟩ rfl, accStep_apply, ih (by omega), Sums.sum_block, EReal.coe_add, ← Sums.coe_sum Finset.univ]
    refine congrArg _ (Finset.sum_congr rfl fun i _ => ?_)
    have h : 512 * k + i.val < 4096 := by omega
    rw [xCols_apply, qBlock_apply, hX, hQ, ext, dif_pos h, EReal.coe_mul]

/-- Over finite arguments a result is the quadratic form, columns first. -/
theorem outv_real (c : Dev nD) (X : Fin 128 → Fin 4096 → ℝ) (Q : Fin 4096 → Fin 4096 → ℝ)
    (hX : ∀ n j, inp m c (ix2 n j) = ((X n j : ℝ) : EReal)) (hQ : ∀ i j, wts m c (ix2 i j) = ((Q i j : ℝ) : EReal)) (n : Fin 128) :
    shapeCast S128 (outv m c) shapeCasts_S1x128_S128 (ix1 n) = ((∑ j, (∑ r, X n r * Q r j) * X n j : ℝ) : EReal) := by
  rw [outv_apply, ← Sums.coe_sum]
  refine Finset.sum_congr rfl fun j _ => ?_
  rw [accv_apply m c X Q hX hQ n j 8 le_rfl, hX, ← EReal.coe_mul, Finset.sum_range]
  refine congrArg (fun s : ℝ => ((s * X n j : ℝ) : EReal)) (Finset.sum_congr rfl fun r _ => ?_)
  rw [ext, dif_pos r.isLt]

end Cert.KernelIdeal.Flow

end
-- ==== Proof.Finite.lean ====
/- The precondition read back: every entry of both arguments is a real number. -/
module

public import proofs.«01_k».proof.Pre_entries_finite
public import proofs.«01_k».proof.Proof.Sums
public import Idealize.ShloMosaic.Lib.Pointwise

@[expose] public section

namespace Cert.Pre_entries_finite

open Idealize.ShloMosaic

/-- The shapes the precondition joins and spreads agree. -/
theorem facts : Facts := ⟨by decide, by decide⟩

/-- One entry of the stacked arguments compares below the infinity: it is a real number. -/
theorem real_of_cmp {x : EReal} (h : Ideal.cmp .olt (max x (-x)) (Ideal.ofBits .f32 0x7F800000#32) = 1#1) : x = ((x.toReal : ℝ) : EReal) := by
  have htop : Ideal.ofBits .f32 0x7F800000#32 = ⊤ := by simp [Ideal.ofBits, Ideal.ieee]
  rw [htop] at h
  unfold Ideal.cmp at h
  refine Sums.real_of_abs (by_contra fun hn => ?_)
  simp [hn] at h

/-- The first argument's entries are the stack's first 128 rows. -/
theorem fst_real [Facts] (x : FVec Ideal S128x4096 .f32) (q : FVec Ideal S4096x4096 .f32) (h : fn x q = fun _ => 1#1) (n : Fin 128) (j : Fin 4096) :
    x (ix2 n j) = ((EReal.toReal (x (ix2 n j)) : ℝ) : EReal) := by
  refine real_of_cmp ?_
  have e := congrFun h (ix2 (⟨n.val, by omega⟩ : Fin 4224) j)
  unfold fn at e
  pointwise at e
  exact e

/-- The matrix's entries are the stack's rows from the 128th on. -/
theorem snd_real [Facts] (x : FVec Ideal S128x4096 .f32) (q : FVec Ideal S4096x4096 .f32) (h : fn x q = fun _ => 1#1) (i j : Fin 4096) :
    q (ix2 i j) = ((EReal.toReal (q (ix2 i j)) : ℝ) : EReal) := by
  refine real_of_cmp ?_
  have e := congrFun h (ix2 (⟨128 + i.val, by omega⟩ : Fin 4224) j)
  unfold fn at e
  pointwise at e
  exact e

end Cert.Pre_entries_finite
-- ==== Proof.Reference.lean ====
/- The reference at one row: the quadratic form, rows first; and its run with the counters. -/
module

public import proofs.«01_k».proof.Proof.Gen.ReferenceIdeal.Run
public import proofs.«01_k».proof.Proof.Sums
public import Idealize.ShloMosaic.Lib.Claim
public import Idealize.ShloMosaic.Lib.Quiescent
public import Idealize.ShloMosaic.Lib.Pointwise

@[expose] public section

noncomputable section

namespace Cert.ReferenceIdeal.Value

open Cert.ReferenceIdeal Cert.ReferenceIdeal.Gen
open Idealize.ShloMosaic Idealize.ShloMosaic.TcCoe Idealize.SL.Sem

/-- What the reference computes of its two arguments. -/
def out {F : FTy → Type} [FloatOps F] (x : FVec F S128x4096 .f32) (q : FVec F S4096x4096 .f32) : FVec F S128 .f32 :=
  Host.dotGeneral dot_S128x4096_S4096x128_S128_1_0_n_n_0_1 none x
    (Host.dotGeneral dot_S4096x4096_S128x4096_S4096x128_1_1_0_0_n_n none q x)

/-- The inner product with every row of the matrix, at an entry. -/
theorem inner_apply (x : FVec Ideal S128x4096 .f32) (q : FVec Ideal S4096x4096 .f32) (i : Fin 4096) (n : Fin 128) :
    Host.dotGeneral dot_S4096x4096_S128x4096_S4096x128_1_1_0_0_n_n none q x (ix2 i n) = ∑ j : Fin 4096, q (ix2 i j) * x (ix2 n j) := by
  pointwise

/-- The reference's entry as a sum of sums. -/
theorem out_apply (x : FVec Ideal S128x4096 .f32) (q : FVec Ideal S4096x4096 .f32) (n : Fin 128) :
    out x q (ix1 n) = ∑ i : Fin 4096, x (ix2 n i) * ∑ j : Fin 4096, q (ix2 i j) * x (ix2 n j) := by
  unfold out
  pointwise

/-- Over finite arguments the reference is the quadratic form, rows first. -/
theorem out_real (x : FVec Ideal S128x4096 .f32) (q : FVec Ideal S4096x4096 .f32) (X : Fin 128 → Fin 4096 → ℝ) (Q : Fin 4096 → Fin 4096 → ℝ)
    (hX : ∀ n j, x (ix2 n j) = ((X n j : ℝ) : EReal)) (hQ : ∀ i j, q (ix2 i j) = ((Q i j : ℝ) : EReal)) (n : Fin 128) :
    out x q (ix1 n) = ((∑ r, X n r * ∑ c, Q r c * X n c : ℝ) : EReal) := by
  rw [out_apply, ← Sums.coe_sum]
  refine Finset.sum_congr rfl fun r _ => ?_
  rw [hX, EReal.coe_mul, ← Sums.coe_sum]
  refine congrArg _ (Finset.sum_congr rfl fun c _ => ?_)
  rw [hQ, hX, EReal.coe_mul]

/-- The reference ends with its arguments as they were and every counter at zero: it declares none. -/
theorem frame (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run _ _ _).mono (fun r h => ⟨fun c => (h c).2, sem_eq_zero_of_no_sems (by decide) r.2⟩) (run m g)

end Cert.ReferenceIdeal.Value

end
-- ==== Proof.Equation.lean ====
/- The equation: over finite arguments the kernel's result is the reference's. -/
module

public import proofs.«01_k».proof.Proof.Ideal.Value
public import proofs.«01_k».proof.Proof.Finite
public import proofs.«01_k».proof.Proof.Reference

@[expose] public section

noncomputable section

namespace Cert.Equation

open Cert.KernelIdeal Cert.KernelIdeal.Gen Cert.KernelIdeal.Flow
open Idealize.ShloMosaic Idealize.ShloMosaic.TcCoe

/-- On a core whose arguments are finite, both programs compute one array. -/
theorem out_eq [Cert.Pre_entries_finite.Facts] (m : (ℓ : Loc nD τ sig) → Buf (Elt Ideal) ℓ) (c : Dev nD)
    (h : Cert.Pre_entries_finite.fn (F := Ideal) (m ((c : Thread nD τ).loc main_arg0)) (m ((c : Thread nD τ).loc main_arg1)) = fun _ => 1#1) :
    Cert.ReferenceIdeal.Value.out (F := Ideal) (m ((c : Thread nD τ).loc main_arg0)) (m ((c : Thread nD τ).loc main_arg1))
      = shapeCast S128 (outv m c) shapeCasts_S1x128_S128 := by
  have hX := Cert.Pre_entries_finite.fst_real _ _ h
  have hQ := Cert.Pre_entries_finite.snd_real _ _ h
  have hw : ∀ i j : Fin 4096, wts m c (ix2 i j) = (m ((c : Thread nD τ).loc main_arg1) : Vec Ideal S4096x4096 .f32) (ix2 i j) := fun i j => rfl
  funext j
  rw [eq_ix1 j]
  refine (Cert.ReferenceIdeal.Value.out_real _ _ _ _ hX hQ (j 0)).trans (Eq.trans ?_ (outv_real m c _ _ hX (fun i j => (hw i j).trans (hQ i j)) (j 0)).symm)
  exact congrArg _ (Sums.form_comm _ _).symm

end Cert.Equation

end
-- ==== Proof.lean ====
/- The certificate: the kernel and its reading over exact numbers each run to the end with their arguments unchanged
   and every counter at zero (Proof/Float, Proof/Ideal), so does the reference (Proof/Reference), and over finite
   arguments the two results are one array (Proof/Equation). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Float.Launch
public import proofs.«01_k».proof.Proof.Ideal.Launch
public import proofs.«01_k».proof.Proof.Equation
public import Idealize.ShloMosaic.Adequacy
public import Idealize.ShloMosaic.Init

@[expose] public section

noncomputable section

namespace Cert.Proof

open Idealize.ShloMosaic Idealize.SL.Sem

/-- The two readings of the program end with equal results on finite arguments. -/
theorem algebraic : Cert.algebraic_KernelIdeal_ReferenceIdeal_pre_entries_finite (hKernelIdeal := Cert.KernelIdeal.Gen.facts)
    (hReferenceIdeal := Cert.ReferenceIdeal.Gen.facts) (hPre_entries_finite := Cert.Pre_entries_finite.facts) := by
  have : Cert.Pre_entries_finite.Facts := Cert.Pre_entries_finite.facts
  intro m g m' g' hpre hargs
  refine ⟨_, (θ_run _ _ _).mono (fun r h => h.1) (Cert.KernelIdeal.Flow.run m g),
    (θ_run _ _ _).mono (fun r h c => ⟨(h c).1.trans ?_, (h c).2⟩) (Cert.ReferenceIdeal.Value.run m' g')⟩
  rw [(hargs c).1, (hargs c).2]
  exact Cert.Equation.out_eq m c (hpre c)

theorem claim : Cert.Claim :=
  ⟨Cert.Kernel.Gen.facts, Cert.KernelIdeal.Gen.facts, Cert.ReferenceIdeal.Gen.facts, Cert.Pre_entries_finite.facts,
    fun m g _ => (θ_run _ _ _).mono (fun _ h => ⟨fun c => (h.1 c).2, h.2⟩) (Cert.Kernel.Flow.run m g),
    fun m g _ => (θ_run _ _ _).mono (fun _ h => ⟨fun c => (h.1 c).2, h.2⟩) (Cert.KernelIdeal.Flow.run m g),
    fun m g _ => (θ_run _ _ _).mono (fun _ h => ⟨fun c => (h.1 c).2, h.2⟩) (Cert.KernelIdeal.Flow.run m g),
    fun m g _ => Cert.ReferenceIdeal.Value.frame m g,
    fun m g _ => Cert.ReferenceIdeal.Value.frame m g,
    trivial,
    algebraic⟩

end Cert.Proof

end
